-- ==== Defs.lean ====
def Pre_Kernel [hPre_sizes_in_range : Cert.Pre_sizes_in_range.Facts] (m : (ℓ : Loc Cert.Kernel.nD Cert.Kernel.τ Cert.Kernel.sig) → Buf (Elt Bits) ℓ) : Prop :=
  ∀ c : Dev Cert.Kernel.nD,
    (Cert.Pre_sizes_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_sizes_in_range : Cert.Pre_sizes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_in_range [hPre_sizes_in_range : Cert.Pre_sizes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_sizes_in_range : Cert.Pre_sizes_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_sizes_in_range : Cert.Pre_sizes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sizes_in_range [hReferenceIdeal : Cert.ReferenceIdeal.Facts] [hPre_sizes_in_range : Cert.Pre_sizes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_in_range : Cert.Pre_sizes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v82_0)) (v1 : (c : Dev Cert.KernelIdeal.nD) → Buf (Elt Ideal) ((c.tc : Thread Cert.KernelIdeal.nD Cert.KernelIdeal.τ).loc Cert.KernelIdeal.main_v82_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82_0) = v0 c
          ∧ r.2.mem ((c.tc : Thread Cert.KernelIdeal.nD Cert.KernelIdeal.τ).loc Cert.KernelIdeal.main_v82_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sizes_in_range : Cert.Pre_sizes_in_range.Facts),
    quiescent_Kernel (hKernel := hKernel) (hPre_sizes_in_range := hPre_sizes_in_range)
    ∧ quiescent_KernelIdeal (hKernelIdeal := hKernelIdeal) (hPre_sizes_in_range := hPre_sizes_in_range)
    ∧ quiescent_ReferenceIdeal (hReferenceIdeal := hReferenceIdeal)
    ∧ quiescent_ReferenceIdeal_pre_sizes_in_range (hReferenceIdeal := hReferenceIdeal) (hPre_sizes_in_range := hPre_sizes_in_range)
    ∧ preserves_Kernel_KernelIdeal
    ∧ algebraic_KernelIdeal_ReferenceIdeal (hKernelIdeal := hKernelIdeal) (hReferenceIdeal := hReferenceIdeal) (hPre_sizes_in_range := hPre_sizes_in_range)
-- ==== Pre_sizes_in_range.lean ====
abbrev S8192x1024 : Shape := ⟨2, ![8192, 1024]⟩
abbrev S8 : Shape := ⟨1, ![8]⟩
abbrev S8x1024x5632 : Shape := ⟨3, ![8, 1024, 5632]⟩
abbrev S8x5632 : Shape := ⟨2, ![8, 5632]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S8192x1024 .bf16) (main_arg1 : IVec S8 32) (main_arg2 : FVec F S8x1024x5632 .fp8e4m3) (main_arg3 : FVec F S8x5632 .f32) : IVec S_ 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 32 := constantI S_ 32 8192#32
  let main_v2 : IVec S8 32 := broadcastInDim S8 ![] bcast_S_S8 main_c_0
  let main_v3 : IVec S8 1 := cmpi .sle main_arg1 main_v2
  let main_v4 : IVec S8 1 := andi main_v1 main_v3
  let main_c_1 : IVec S_ 1 := constantI S_ 1 1#1
  let main_v5 : IVec S_ 1 := (fun x v => Host.reduce IntOp.andi x v reducesTo_S8_S_d0 h_S_) main_v4 main_c_1
  main_v5
-- ==== Kernel.lean ====
abbrev S8192x1024 : Shape := ⟨2, ![8192, 1024]⟩
abbrev S8 : Shape := ⟨1, ![8]⟩
abbrev S8x1024x5632 : Shape := ⟨3, ![8, 1024, 5632]⟩
abbrev S8x5632 : Shape := ⟨2, ![8, 5632]⟩
abbrev S_ : Shape := ⟨0, ![]⟩
abbrev S1 : Shape := ⟨1, ![1]⟩
abbrev S10 : Shape := ⟨1, ![10]⟩
abbrev S9 : Shape := ⟨1, ![9]⟩
abbrev S40 : Shape := ⟨1, ![40]⟩
abbrev S40x1 : Shape := ⟨2, ![40, 1]⟩
abbrev S1x9 : Shape := ⟨2, ![1, 9]⟩
abbrev S40x9 : Shape := ⟨2, ![40, 9]⟩
abbrev S39 : Shape := ⟨1, ![39]⟩
abbrev S1x40 : Shape := ⟨2, ![1, 40]⟩
abbrev S6x40 : Shape := ⟨2, ![6, 40]⟩
abbrev S8x1x5632 : Shape := ⟨3, ![8, 1, 5632]⟩
abbrev S8192x2816 : Shape := ⟨2, ![8192, 2816]⟩
abbrev S8192x1 : Shape := ⟨2, ![8192, 1]⟩
abbrev S256x1024 : Shape := ⟨2, ![256, 1024]⟩
abbrev S1x1 : Shape := ⟨2, ![1, 1]⟩
abbrev S1x1024x5632 : Shape := ⟨3, ![1, 1024, 5632]⟩
abbrev S1x1x5632 : Shape := ⟨3, ![1, 1, 5632]⟩
abbrev S256x2816 : Shape := ⟨2, ![256, 2816]⟩
abbrev S256x1 : Shape := ⟨2, ![256, 1]⟩
abbrev S256 : Shape := ⟨1, ![256]⟩
abbrev S1x256 : Shape := ⟨2, ![1, 256]⟩
abbrev S256x256 : Shape := ⟨2, ![256, 256]⟩
abbrev S256x128 : Shape := ⟨2, ![256, 128]⟩
abbrev S1x1024x256 : Shape := ⟨3, ![1, 1024, 256]⟩
abbrev S1024x256 : Shape := ⟨2, ![1024, 256]⟩
abbrev S1x1x256 : Shape := ⟨3, ![1, 1, 256]⟩

abbrev nBuf : Space → Nat
  | .hbm => 148
  | .vmem => 11
  | .smem => 1
  | _ => 0

abbrev hbmTy0_0 (i : Nat) : BufTy := match i % 128 with
  | 0 => ⟨S8192x1024, .bf16⟩
  | 1 => ⟨S8, .i32⟩
  | 2 => ⟨S8x1024x5632, .fp8e4m3⟩
  | 3 => ⟨S8x5632, .f32⟩
  | 4 => ⟨S_, .i32⟩
  | 5 => ⟨S_, .i32⟩
  | 6 => ⟨S8, .i32⟩
  | 7 => ⟨S_, .i32⟩
  | 8 => ⟨S8, .i32⟩
  | 9 => ⟨S8, .i32⟩
  | 10 => ⟨S_, .i32⟩
  | 11 => ⟨S1, .i32⟩
  | 12 => ⟨S_, .i32⟩
  | 13 => ⟨S1, .i32⟩
  | 14 => ⟨S1, .i32⟩
  | 15 => ⟨S10, .i32⟩
  | 16 => ⟨S9, .i32⟩
  | 17 => ⟨S9, .i32⟩
  | 18 => ⟨S_, .i32⟩
  | 19 => ⟨S_, .i32⟩
  | 20 => ⟨S9, .i32⟩
  | 21 => ⟨S9, .i32⟩
  | 22 => ⟨S9, .i32⟩
  | 23 => ⟨S_, .i32⟩
  | 24 => ⟨S9, .i32⟩
  | 25 => ⟨S9, .i1⟩
  | 26 => ⟨S9, .i32⟩
  | 27 => ⟨S9, .i32⟩
  | 28 => ⟨S_, .i32⟩
  | 29 => ⟨S9, .i32⟩
  | 30 => ⟨S9, .i1⟩
  | 31 => ⟨S9, .i1⟩
  | 32 => ⟨S_, .i32⟩
  | 33 => ⟨S9, .i32⟩
  | 34 => ⟨S9, .i32⟩
  | 35 => ⟨S9, .i32⟩
  | 36 => ⟨S9, .i1⟩
  | 37 => ⟨S_, .i32⟩
  | 38 => ⟨S9, .i32⟩
  | 39 => ⟨S9, .i32⟩
  | 40 => ⟨S_, .i32⟩
  | 41 => ⟨S_, .i32⟩
  | 42 => ⟨S9, .i32⟩
  | 43 => ⟨S9, .i32⟩
  | 44 => ⟨S9, .i32⟩
  | 45 => ⟨S_, .i32⟩
  | 46 => ⟨S9, .i32⟩
  | 47 => ⟨S9, .i1⟩
  | 48 => ⟨S9, .i32⟩
  | 49 => ⟨S9, .i32⟩
  | 50 => ⟨S_, .i32⟩
  | 51 => ⟨S9, .i32⟩
  | 52 => ⟨S9, .i1⟩
  | 53 => ⟨S9, .i1⟩
  | 54 => ⟨S_, .i32⟩
  | 55 => ⟨S9, .i32⟩
  | 56 => ⟨S9, .i32⟩
  | 57 => ⟨S9, .i32⟩
  | 58 => ⟨S9, .i32⟩
  | 59 => ⟨S_, .i32⟩
  | 60 => ⟨S9, .i32⟩
  | 61 => ⟨S9, .i32⟩
  | 62 => ⟨S_, .i32⟩
  | 63 => ⟨S_, .i32⟩
  | 64 => ⟨S9, .i32⟩
  | 65 => ⟨S9, .i32⟩
  | 66 => ⟨S_, .i32⟩
  | 67 => ⟨S_, .i32⟩
  | 68 => ⟨S9, .i32⟩
  | 69 => ⟨S1, .i32⟩
  | 70 => ⟨S_, .i32⟩
  | 71 => ⟨S40, .i32⟩
  | 72 => ⟨S_, .i32⟩
  | 73 => ⟨S_, .i32⟩
  | 74 => ⟨S40, .i32⟩
  | 75 => ⟨S40, .i32⟩
  | 76 => ⟨S40x1, .i32⟩
  | 77 => ⟨S1x9, .i32⟩
  | 78 => ⟨S40x9, .i32⟩
  | 79 => ⟨S40x9, .i32⟩
  | 80 => ⟨S40x9, .i1⟩
  | 81 => ⟨S40x9, .i32⟩
  | 82 => ⟨S_, .i32⟩
  | 83 => ⟨S40, .i32⟩
  | 84 => ⟨S40x1, .i32⟩
  | 85 => ⟨S9, .i32⟩
  | 86 => ⟨S1x9, .i32⟩
  | 87 => ⟨S40x9, .i32⟩
  | 88 => ⟨S40x9, .i32⟩
  | 89 => ⟨S40x9, .i1⟩
  | 90 => ⟨S40x9, .i32⟩
  | 91 => ⟨S1x9, .i32⟩
  | 92 => ⟨S40x9, .i32⟩
  | 93 => ⟨S40x9, .i32⟩
  | 94 => ⟨S_, .i32⟩
  | 95 => ⟨S40, .i32⟩
  | 96 => ⟨S40, .i32⟩
  | 97 => ⟨S9, .i32⟩
  | 98 => ⟨S1x9, .i32⟩
  | 99 => ⟨S40x9, .i32⟩
  | 100 => ⟨S40x9, .i32⟩
  | 101 => ⟨S_, .i32⟩
  | 102 => ⟨S40, .i32⟩
  | 103 => ⟨S40, .i32⟩
  | 104 => ⟨S_, .i32⟩
  | 105 => ⟨S40, .i32⟩
  | 106 => ⟨S40, .i1⟩
  | 107 => ⟨S1x9, .i32⟩
  | 108 => ⟨S40x9, .i32⟩
  | 109 => ⟨S40x9, .i32⟩
  | 110 => ⟨S_, .i32⟩
  | 111 => ⟨S40, .i32⟩
  | 112 => ⟨S_, .i32⟩
  | 113 => ⟨S_, .i32⟩
  | 114 => ⟨S40, .i32⟩
  | 115 => ⟨S40, .i32⟩
  | 116 => ⟨S1x9, .i32⟩
  | 117 => ⟨S40x9, .i32⟩
  | 118 => ⟨S40x9, .i32⟩
  | 119 => ⟨S_, .i32⟩
  | 120 => ⟨S40, .i32⟩
  | 121 => ⟨S_, .i32⟩
  | 122 => ⟨S_, .i32⟩
  | 123 => ⟨S40, .i32⟩
  | 124 => ⟨S40, .i32⟩
  | 125 => ⟨S_, .i32⟩
  | 126 => ⟨S1, .i32⟩
  | 127 => ⟨S1, .i32⟩
  | _ => ⟨S8192x1024, .bf16⟩

abbrev hbmTy0_1 (i : Nat) : BufTy := match i % 128 with
  | 0 => ⟨S39, .i32⟩
  | 1 => ⟨S39, .i32⟩
  | 2 => ⟨S39, .i1⟩
  | 3 => ⟨S39, .i32⟩
  | 4 => ⟨S40, .i32⟩
  | 5 => ⟨S40, .i32⟩
  | 6 => ⟨S40, .i1⟩
  | 7 => ⟨S40, .i32⟩
  | 8 => ⟨S_, .i32⟩
  | 9 => ⟨S40, .i32⟩
  | 10 => ⟨S40, .i32⟩
  | 11 => ⟨S1x40, .i32⟩
  | 12 => ⟨S1x40, .i32⟩
  | 13 => ⟨S1x40, .i32⟩
  | 14 => ⟨S1x40, .i32⟩
  | 15 => ⟨S1x40, .i32⟩
  | 16 => ⟨S1x40, .i32⟩
  | 17 => ⟨S8x1x5632, .f32⟩
  | 18 => ⟨S8192x2816, .fp8e4m3⟩
  | 19 => ⟨S8192x1, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S256x1024, .bf16⟩
  | .local _ .vmem, ⟨2, _⟩ => ⟨S1x1024x5632, .fp8e4m3⟩
  | .local _ .vmem, ⟨3, _⟩ => ⟨S1x1024x5632, .fp8e4m3⟩
  | .local _ .vmem, ⟨4, _⟩ => ⟨S1x1x5632, .f32⟩
  | .local _ .vmem, ⟨5, _⟩ => ⟨S1x1x5632, .f32⟩
  | .local _ .vmem, ⟨6, _⟩ => ⟨S256x2816, .fp8e4m3⟩
  | .local _ .vmem, ⟨7, _⟩ => ⟨S256x2816, .fp8e4m3⟩
  | .local _ .vmem, ⟨8, _⟩ => ⟨S256x1, .f32⟩
  | .local _ .vmem, ⟨9, _⟩ => ⟨S256x1, .f32⟩
  | .local _ .vmem, ⟨10, _⟩ => ⟨S256x2816, .f32⟩
  | .local _ .smem, ⟨0, _⟩ => ⟨S6x40, .i32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_c : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_0 : Ref sig .tc := ⟨.hbm, 32, rfl⟩
abbrev main_call1_v12 : Ref sig .tc := ⟨.hbm, 33, rfl⟩
abbrev main_call1_v13 : Ref sig .tc := ⟨.hbm, 34, rfl⟩
abbrev main_v9 : Ref sig .tc := ⟨.hbm, 35, rfl⟩
abbrev main_v10 : Ref sig .tc := ⟨.hbm, 36, rfl⟩
abbrev main_c_3 : Ref sig .tc := ⟨.hbm, 37, rfl⟩
abbrev main_v11 : Ref sig .tc := ⟨.hbm, 38, rfl⟩
abbrev main_v12 : Ref sig .tc := ⟨.hbm, 39, rfl⟩
abbrev main_c_4 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_c : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_c_0 : Ref sig .tc := ⟨.hbm, 54, rfl⟩
abbrev main_call2_v12 : Ref sig .tc := ⟨.hbm, 55, rfl⟩
abbrev main_call2_v13 : Ref sig .tc := ⟨.hbm, 56, rfl⟩
abbrev main_v13 : Ref sig .tc := ⟨.hbm, 57, rfl⟩
abbrev main_v14 : Ref sig .tc := ⟨.hbm, 58, rfl⟩
abbrev main_c_5 : Ref sig .tc := ⟨.hbm, 59, rfl⟩
abbrev main_v15 : Ref sig .tc := ⟨.hbm, 60, rfl⟩
abbrev main_v16 : Ref sig .tc := ⟨.hbm, 61, rfl⟩
abbrev main_c_6 : Ref sig .tc := ⟨.hbm, 62, rfl⟩
abbrev main_call3_v0 : Ref sig .tc := ⟨.hbm, 63, rfl⟩
abbrev main_call3_v1 : Ref sig .tc := ⟨.hbm, 64, rfl⟩
abbrev main_v17 : Ref sig .tc := ⟨.hbm, 65, rfl⟩
abbrev main_call4_call0_c : Ref sig .tc := ⟨.hbm, 66, rfl⟩
abbrev main_call4_call0_v0 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_c_7 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_c_8 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_c_9 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_c_10 : Ref sig .tc := ⟨.hbm, 101, rfl⟩
abbrev main_v48 : Ref sig .tc := ⟨.hbm, 102, rfl⟩
abbrev main_v49 : Ref sig .tc := ⟨.hbm, 103, rfl⟩
abbrev main_c_11 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_c_12 : Ref sig .tc := ⟨.hbm, 110, rfl⟩
abbrev main_v55 : Ref sig .tc := ⟨.hbm, 111, rfl⟩
abbrev main_c_13 : Ref sig .tc := ⟨.hbm, 112, rfl⟩
abbrev main_call5_v0 : Ref sig .tc := ⟨.hbm, 113, rfl⟩
abbrev main_call5_v1 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_c_14 : Ref sig .tc := ⟨.hbm, 119, rfl⟩
abbrev main_v60 : Ref sig .tc := ⟨.hbm, 120, rfl⟩
abbrev main_c_15 : Ref sig .tc := ⟨.hbm, 121, rfl⟩
abbrev main_call6_v0 : Ref sig .tc := ⟨.hbm, 122, rfl⟩
abbrev main_call6_v1 : Ref sig .tc := ⟨.hbm, 123, rfl⟩
abbrev main_v61 : Ref sig .tc := ⟨.hbm, 124, rfl⟩
abbrev main_c_16 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_c_17 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v81 : Ref sig .tc := ⟨.hbm, 145, rfl⟩
abbrev main_v82_0 : Ref sig .tc := ⟨.hbm, 146, rfl⟩
abbrev main_v82_1 : Ref sig .tc := ⟨.hbm, 147, rfl⟩
abbrev main_v80 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![40], ![false]⟩

abbrev pre0 : Pipeline.Prefetch sig := ⟨1, ![main_v80.idx], fun | 0 => main_v80.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let c1 : Index := 1#32
  let arg0 : BitVec 32 := BitVec.ofNat 32 (i 0).val
  let v0 : Index := Scalar.indexCast arg0
  ![1, v0.toNat]
def k0_off3 (i : grid0.Coords) : Fin 2 → Nat :=
  let c2 : Index := 2#32
  let arg0 : BitVec 32 := BitVec.ofNat 32 (i 0).val
  let v2 : Index := Scalar.indexCast arg0
  ![2, v2.toNat]
def k0_off4 (i : grid0.Coords) : Fin 2 → Nat :=
  let c3 : Index := 3#32
  let arg0 : BitVec 32 := BitVec.ofNat 32 (i 0).val
  let v4 : Index := Scalar.indexCast arg0
  ![3, v4.toNat]
def k0_off5 (i : grid0.Coords) : Fin 2 → Nat :=
  let c4 : Index := 4#32
  let arg0 : BitVec 32 := BitVec.ofNat 32 (i 0).val
  let v6 : Index := Scalar.indexCast arg0
  ![4, v6.toNat]
def k0_off6 (i : grid0.Coords) : Fin 2 → Nat :=
  let c5 : Index := 5#32
  let arg0 : BitVec 32 := BitVec.ofNat 32 (i 0).val
  let v8 : Index := Scalar.indexCast arg0
  ![5, v8.toNat]
def k0_cond1 (v9 : BitVec 32) : BitVec 1 :=
  let c0_i32 : BitVec 32 := 0#32
  let v10 : BitVec 1 := Scalar.cmpi .ne v9 c0_i32
  let v11 : BitVec 32 := Scalar.extui v10
  let c0_i32_0 : BitVec 32 := 0#32
  let v12 : BitVec 1 := Scalar.cmpi .ne v11 c0_i32_0
  v12

def cc0_transform_0 (k0_off1_inb : ∀ i : grid0.Coords, ∀ a, (k0_off1 i) a + S1x1.size a ≤ S6x40.size a) (numel1_S1x1 : S1x1.numel = 1) (pf : pre0.Contents (Elt F)) (i : grid0.Coords) : Fin 2 → Nat :=
  let arg0 : BitVec 32 := BitVec.ofNat 32 (i 0).val
  let c0 : Index := 0#32
  let v0 : Index := Scalar.indexCast arg0
  let v1 : BitVec 32 := pf.at 0 (Rect.unit (s := S6x40) ![0, v0.toNat] S1x1.size (k0_off1_inb i)) numel1_S1x1
  let c0_i32 : BitVec 32 := 0#32
  let c0_i32_0 : BitVec 32 := 0#32
  ![v1.toNat, c0_i32.toNat]

def cc0_transform_1 (k0_off2_inb : ∀ i : grid0.Coords, ∀ a, (k0_off2 i) a + S1x1.size a ≤ S6x40.size a) (numel1_S1x1 : S1x1.numel = 1) (pf : pre0.Contents (Elt F)) (i : grid0.Coords) : Fin 3 → Nat :=
  let arg0 : BitVec 32 := BitVec.ofNat 32 (i 0).val
  let c1 : Index := 1#32
  let v0 : Index := Scalar.indexCast arg0
  let v1 : BitVec 32 := pf.at 0 (Rect.unit (s := S6x40) ![1, v0.toNat] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_2 (k0_off2_inb : ∀ i : grid0.Coords, ∀ a, (k0_off2 i) a + S1x1.size a ≤ S6x40.size a) (numel1_S1x1 : S1x1.numel = 1) (pf : pre0.Contents (Elt F)) (i : grid0.Coords) : Fin 3 → Nat :=
  let arg0 : BitVec 32 := BitVec.ofNat 32 (i 0).val
  let c1 : Index := 1#32
  let v0 : Index := Scalar.indexCast arg0
  let v1 : BitVec 32 := pf.at 0 (Rect.unit (s := S6x40) ![1, v0.toNat] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1x1.size a ≤ S6x40.size a) (numel1_S1x1 : S1x1.numel = 1) (pf : pre0.Contents (Elt F)) (i : grid0.Coords) : Fin 2 → Nat :=
  let arg0 : BitVec 32 := BitVec.ofNat 32 (i 0).val
  let c0 : Index := 0#32
  let v0 : Index := Scalar.indexCast arg0
  let v1 : BitVec 32 := pf.at 0 (Rect.unit (s := S6x40) ![0, v0.toNat] S1x1.size (k0_off1_inb i)) numel1_S1x1
  let c0_i32 : BitVec 32 := 0#32
  let c0_i32_0 : BitVec 32 := 0#32
  ![v1.toNat, c0_i32.toNat]

def cc0_transform_4 (k0_off1_inb : ∀ i : grid0.Coords, ∀ a, (k0_off1 i) a + S1x1.size a ≤ S6x40.size a) (numel1_S1x1 : S1x1.numel = 1) (pf : pre0.Contents (Elt F)) (i : grid0.Coords) : Fin 2 → Nat :=
  let arg0 : BitVec 32 := BitVec.ofNat 32 (i 0).val
  let c0 : Index := 0#32
  let v0 : Index := Scalar.indexCast arg0
  let v1 : BitVec 32 := pf.at 0 (Rect.unit (s := S6x40) ![0, v0.toNat] S1x1.size (k0_off1_inb i)) numel1_S1x1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x5632 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8192x1024 : Shape := ⟨2, ![8192, 1024]⟩
abbrev S8 : Shape := ⟨1, ![8]⟩
abbrev S8x1024x5632 : Shape := ⟨3, ![8, 1024, 5632]⟩
abbrev S8x5632 : Shape := ⟨2, ![8, 5632]⟩
abbrev S8192x2816 : Shape := ⟨2, ![8192, 2816]⟩
abbrev S8192x1 : Shape := ⟨2, ![8192, 1]⟩
abbrev S8192 : Shape := ⟨1, ![8192]⟩
abbrev S1x253 : Shape := ⟨2, ![1, 253]⟩
abbrev S8192x253 : Shape := ⟨2, ![8192, 253]⟩
abbrev S1x2816 : Shape := ⟨2, ![1, 2816]⟩
abbrev S1 : Shape := ⟨1, ![1]⟩
abbrev S1x1024x2816 : Shape := ⟨3, ![1, 1024, 2816]⟩
abbrev S1024x2816 : Shape := ⟨2, ![1024, 2816]⟩

abbrev nBuf : Space → Nat
  | .hbm => 6
  | .vmem => 5
  | .smem => 1
  | _ => 0

abbrev bufTy : (tb : Table) → Fin (tcTables nBuf tb) → BufTy
  | .hbm, ⟨0, _⟩ => ⟨S8192x1024, .bf16⟩
  | .hbm, ⟨1, _⟩ => ⟨S8, .i32⟩
  | .hbm, ⟨2, _⟩ => ⟨S8x1024x5632, .fp8e4m3⟩
  | .hbm, ⟨3, _⟩ => ⟨S8x5632, .f32⟩
  | .hbm, ⟨4, _⟩ => ⟨S8192x2816, .fp8e4m3⟩
  | .hbm, ⟨5, _⟩ => ⟨S8192x1, .f32⟩
  | .local _ .vmem, ⟨0, _⟩ => ⟨S8192x1024, .bf16⟩
  | .local _ .vmem, ⟨1, _⟩ => ⟨S8x1024x5632, .fp8e4m3⟩
  | .local _ .vmem, ⟨2, _⟩ => ⟨S8x5632, .f32⟩
  | .local _ .vmem, ⟨3, _⟩ => ⟨S8192x2816, .fp8e4m3⟩
  | .local _ .vmem, ⟨4, _⟩ => ⟨S8192x1, .f32⟩
  | .local _ .smem, ⟨0, _⟩ => ⟨S8, .i32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x5632 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x2816 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Same.lean ====
module
public import proofs.«01_k».proof.Proof.Gen.Kernel
public import proofs.«01_k».proof.Proof.Gen.Kernel.Launch
public import proofs.«01_k».proof.Proof.Gen.KernelIdeal.Launch

@[expose] public section
noncomputable section
namespace Cert.Same
open Idealize.ShloMosaic Idealize.SL.Sem
variable {F : FTy → Type} [FloatOps F]

theorem defs₀_eq : Cert.Kernel.defs₀ (F := F)  = Cert.KernelIdeal.defs₀ (F := F) := by
  unfold Cert.Kernel.defs₀ Cert.KernelIdeal.defs₀
  congr 1
  funext l x
  match l, x with
  | 0, (t, s) => rfl
  | ⟨_ + 1, h⟩, _ => exact absurd h (Nat.not_lt.2 (Nat.le_add_left _ _))
set_option maxHeartbeats 4000000 in
theorem defs_eq : Cert.Kernel.defs (F := F)  = Cert.KernelIdeal.defs (F := F) := by
  unfold Cert.Kernel.defs Cert.KernelIdeal.defs
  rw [defs₀_eq]
  rfl
theorem hostOps0_eq : Cert.Kernel.Gen.hostOps0 (F := F) = Cert.KernelIdeal.Gen.hostOps0 (F := F) := rfl
theorem hostOps0_1_eq : Cert.Kernel.Gen.hostOps0_1 (F := F) = Cert.KernelIdeal.Gen.hostOps0_1 (F := F) := rfl
theorem hostOps0_2_eq : Cert.Kernel.Gen.hostOps0_2 (F := F) = Cert.KernelIdeal.Gen.hostOps0_2 (F := F) := rfl
theorem hostOps0_3_eq : Cert.Kernel.Gen.hostOps0_3 (F := F) = Cert.KernelIdeal.Gen.hostOps0_3 (F := F) := rfl
theorem hostOps0_4_eq : Cert.Kernel.Gen.hostOps0_4 (F := F) = Cert.KernelIdeal.Gen.hostOps0_4 (F := F) := rfl
theorem hostOps0_5_eq : Cert.Kernel.Gen.hostOps0_5 (F := F) = Cert.KernelIdeal.Gen.hostOps0_5 (F := F) := rfl
theorem hostOps0_6_eq : Cert.Kernel.Gen.hostOps0_6 (F := F) = Cert.KernelIdeal.Gen.hostOps0_6 (F := F) := rfl
theorem hostOps0_7_eq : Cert.Kernel.Gen.hostOps0_7 (F := F) = Cert.KernelIdeal.Gen.hostOps0_7 (F := F) := rfl
theorem hostOps0_8_eq : Cert.Kernel.Gen.hostOps0_8 (F := F) = Cert.KernelIdeal.Gen.hostOps0_8 (F := F) := rfl
theorem hostOps0_9_eq : Cert.Kernel.Gen.hostOps0_9 (F := F) = Cert.KernelIdeal.Gen.hostOps0_9 (F := F) := rfl
theorem hostOps0_10_eq : Cert.Kernel.Gen.hostOps0_10 (F := F) = Cert.KernelIdeal.Gen.hostOps0_10 (F := F) := rfl
theorem hostOps0_11_eq : Cert.Kernel.Gen.hostOps0_11 (F := F) = Cert.KernelIdeal.Gen.hostOps0_11 (F := F) := rfl
theorem hostOps0_12_eq : Cert.Kernel.Gen.hostOps0_12 (F := F) = Cert.KernelIdeal.Gen.hostOps0_12 (F := F) := rfl
set_option maxHeartbeats 4000000 in
theorem main_eq (c : Dev Cert.Kernel.nD) : Cert.Kernel.main (F := F) c = Cert.KernelIdeal.main (F := F) c := by
  refine (Cert.Kernel.Gen.main_chain (F := F) c).trans (Eq.trans ?_ (Cert.KernelIdeal.Gen.main_chain (F := F) c).symm)
  rfl
end Cert.Same
end
-- ==== Proof.Body.lean ====
/-
  The kernel's body, run once at symbolic operands: at a visit whose table entry says that it has work (`valid`), and at a
  padding visit. What a visit with work leaves in the two results' staging buffers and in the scratch buffer is found by the
  run, as the lists of the blocks it stores; a padding visit changes nothing.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- What the separation logic's assertions speak of: the machine's state and its ghost state. -/
abbrev Model (F : FTy → Type) [FloatOps F] := MT nD τ sig Unit (Elt F) ℕ (UR sig nD τ) ℕ

/-- The word of the table that says whether a visit has work, as the body loads it. -/
abbrev validWord (i : grid0.Coords) (arg1 : Memref sig .tc .smem S6x40 .i32) (harg1 : arg1.IsWhole) (x1 : Vec F S6x40 .i32) : BitVec 32 :=
  View.readAt (Elt F) arg1.view (Rect.unit (s := S6x40) (k0_off6 i) S1x1.size (k0_off6_inb i)).toLoadRect (harg1.unread x1) (Shape.Idx.first (numel1_S1x1.ge))

set_option maxHeartbeats 1000000 in
/-- What a visit with work stores in the codes' block, the scales' block and the scratch buffer, with the proof that the body,
    run on whole buffers — the table, the rows, the weights, the weights' scales and the scratch at given contents, the two
    results' blocks at anything —, ends with the inputs as they were and those stores made. -/
noncomputable def kernelRun (c : Dev nD) (i : grid0.Coords) (arg1 : Memref sig .tc .smem S6x40 .i32) (harg1 : arg1.IsWhole)
    (arg2 : Memref sig .tc .vmem S256x1024 .bf16) (harg2 : arg2.IsWhole) (arg3 : Memref sig .tc .vmem S1x1024x5632 .fp8e4m3) (harg3 : arg3.IsWhole)
    (arg4 : Memref sig .tc .vmem S1x1x5632 .f32) (harg4 : arg4.IsWhole) (arg5 : Memref sig .tc .vmem S256x2816 .fp8e4m3) (harg5 : arg5.IsWhole)
    (arg6 : Memref sig .tc .vmem S256x1 .f32) (harg6 : arg6.IsWhole) (arg7 : Memref sig .tc .vmem S256x2816 .f32) (harg7 : arg7.IsWhole)
    (x1 : Vec F S6x40 .i32) (x2 : Vec F S256x1024 .bf16) (x3 : Vec F S1x1024x5632 .fp8e4m3) (x4 : Vec F S1x1x5632 .f32) (x7 : Vec F S256x2816 .f32) :
    Σ' (L5 : List (View.Piece (Elt F) S256x2816 .fp8e4m3)) (L6 : List (View.Piece (Elt F) S256x1 .f32)), { L7 : List (View.Piece (Elt F) S256x2816 .f32) //
      ∀ (_ : k0_cond1 (validWord i arg1 harg1 x1) = 1#1) (q : PosShare TreeShare) (E : Set ℕ) (K : PUnit → sProp (Model F)),
        iprop(owns (c : Thread nD τ) arg1 q x1 ∗ owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg6 fullShare d) ∗ owns (c : Thread nD τ) arg7 fullShare x7
            ∗ (iprop(owns (c : Thread nD τ) arg1 q x1 ∗ owns (c : Thread nD τ) arg2 fullShare x2 ∗ owns (c : Thread nD τ) arg3 fullShare x3 ∗ owns (c : Thread nD τ) arg4 fullShare x4
              ∗ (∃ f, arg5.view.loc (c : Thread nD τ) ↦[arg5.view.set]{fullShare} arg5.view.writes (Elt F) f L5)
              ∗ (∃ f, arg6.view.loc (c : Thread nD τ) ↦[arg6.view.set]{fullShare} arg6.view.writes (Elt F) f L6)
              ∗ (∃ f, arg7.view.loc (c : Thread nD τ) ↦[arg7.view.set]{fullShare} arg7.view.writes (Elt F) f L7)) -∗ K ⟨⟩))
      ⊢ wp frame (wpE (defs₀ (F := F)) Variants.none c none) E
          (cc0_moe_gate_up_swiglu_fp8 i arg1 harg1 arg2 harg2 arg3 harg3 arg4 harg4 arg5 harg5 arg6 harg6 arg7 harg7) K } := by
  refine ⟨?_, ?_, ?_, fun hv q E K => ?run⟩
  case run =>
    simp only [cc0_moe_gate_up_swiglu_fp8_eq_skeleton]; unfold cc0_moe_gate_up_swiglu_fp8_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
    obtain rfl := harg1.eq_unread hf1; obtain rfl := harg2.eq_unread hf2; obtain rfl := harg3.eq_unread hf3
    obtain rfl := harg4.eq_unread hf4; obtain rfl := harg7.eq_unread hf7
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    iexists _; iexact H7

/-- A padding visit reads its word of the table and does nothing. -/
theorem kernelRun_idle (c : Dev nD) (i : grid0.Coords) (arg1 : Memref sig .tc .smem S6x40 .i32) (harg1 : arg1.IsWhole)
    (arg2 : Memref sig .tc .vmem S256x1024 .bf16) (harg2 : arg2.IsWhole) (arg3 : Memref sig .tc .vmem S1x1024x5632 .fp8e4m3) (harg3 : arg3.IsWhole)
    (arg4 : Memref sig .tc .vmem S1x1x5632 .f32) (harg4 : arg4.IsWhole) (arg5 : Memref sig .tc .vmem S256x2816 .fp8e4m3) (harg5 : arg5.IsWhole)
    (arg6 : Memref sig .tc .vmem S256x1 .f32) (harg6 : arg6.IsWhole) (arg7 : Memref sig .tc .vmem S256x2816 .f32) (harg7 : arg7.IsWhole)
    (x1 : Vec F S6x40 .i32)
    (hv : ¬ k0_cond1 (validWord i arg1 harg1 x1) = 1#1) (q : PosShare TreeShare) (E : Set ℕ) (K : PUnit → sProp (Model F)) :
    iprop(owns (c : Thread nD τ) arg1 q x1 ∗ (iprop(owns (c : Thread nD τ) arg1 q x1) -∗ K ⟨⟩))
      ⊢ wp frame (wpE (defs₀ (F := F)) Variants.none c none) E
          (cc0_moe_gate_up_swiglu_fp8 i arg1 harg1 arg2 harg2 arg3 harg3 arg4 harg4 arg5 harg5 arg6 harg6 arg7 harg7) K := by
  simp only [cc0_moe_gate_up_swiglu_fp8_eq_skeleton]; unfold cc0_moe_gate_up_swiglu_fp8_skel
  unfold owns
  iintro ⟨⟨%f1, %hf1, H1⟩, Hk⟩
  obtain rfl := harg1.eq_unread hf1
  sl_exec
  sl_step
  iapply Hk
  iexists _; isplitr; · ipureintro; exact harg1.read_unread _
  iexact H1

end Cert.KernelIdeal.Body

end
-- ==== Proof.Plan.lean ====
/-
  The visiting plan as numbers. The rows 0 … 8191 are cut at the bounds `bnd n 0 ≤ … ≤ bnd n 9` into nine groups (the
  eight experts' and the rest); a visit is one (group, 256-row tile) pair whose rows meet, and the visits are taken in
  order. Here: the plan's definitions over ℕ, and how successive visits hang together.
-/
module

public import Idealize.ShloMosaic.Lib.PlanTiles.Stages
public import Mathlib.Data.Nat.Count

@[expose] public section

namespace Cert.Plan

variable (n : ℕ → ℕ)

/-- The first row of group `i` (of the eight experts' groups and the rest): the sizes summed, cut at 8192 rows. -/
def bnd (i : ℕ) : ℕ := if i ≤ 8 then min (∑ e ∈ Finset.range i, n e) 8192 else 8192

/-- How many 256-row tiles group `g` meets. -/
def nt (g : ℕ) : ℕ := if bnd n g < bnd n (g + 1) then (bnd n (g + 1) - 1) / 256 - bnd n g / 256 + 1 else 0

/-- How many visits the groups before `g` take. -/
def cum (g : ℕ) : ℕ := ∑ j ∈ Finset.range g, nt n j

/-- The number of visits. -/
def total : ℕ := cum n 9

/-- The visit made at grid point `v`: the last one is repeated after the end. -/
def vis (v : ℕ) : ℕ := min v (total n - 1)

/-- The group visited at grid point `v`. -/
def grp (v : ℕ) : ℕ := Nat.count (fun g => cum n (g + 1) ≤ vis n v) 9

/-- The tile visited at grid point `v`. -/
def tile (v : ℕ) : ℕ := bnd n (grp n v) / 256 + vis n v - cum n (grp n v)

/-- The expert whose weights grid point `v` takes. -/
def expert (v : ℕ) : ℕ := min (grp n v) 7

theorem bnd_zero : bnd n 0 = 0 := by simp [bnd]
theorem bnd_nine : bnd n 9 = 8192 := by simp [bnd]
theorem bnd_le (i : ℕ) : bnd n i ≤ 8192 := by unfold bnd; split <;> omega
theorem bnd_succ (i : ℕ) : bnd n i ≤ bnd n (i + 1) := by
  unfold bnd
  rw [Finset.sum_range_succ]
  split <;> split <;> omega
theorem bnd_mono : Monotone (bnd n) := monotone_nat_of_le_succ (bnd_succ n)

theorem cum_zero : cum n 0 = 0 := rfl
theorem cum_succ (g : ℕ) : cum n (g + 1) = cum n g + nt n g := Finset.sum_range_succ _ _
theorem cum_mono : Monotone (cum n) := monotone_nat_of_le_succ fun g => by rw [cum_succ]; omega

/-- A group with a visit is not empty. -/
theorem nt_pos {g : ℕ} (h : 0 < nt n g) : bnd n g < bnd n (g + 1) ∧ nt n g = (bnd n (g + 1) - 1) / 256 - bnd n g / 256 + 1 := by
  unfold nt at h ⊢
  split at h
  · rename_i hh; exact ⟨hh, if_pos hh⟩
  · omega

/-- A group with no visit is empty. -/
theorem nt_zero {g : ℕ} (h : nt n g = 0) : bnd n (g + 1) = bnd n g := by
  have := bnd_succ n g
  unfold nt at h
  split at h
  · omega
  · omega

/-- The visits before group `g` cover the rows before it. -/
theorem cum_ge (g : ℕ) : (bnd n g + 255) / 256 ≤ cum n g := by
  induction g with
  | zero => simp [bnd_zero]
  | succ g ih =>
    rw [cum_succ]
    unfold nt
    have := bnd_succ n g
    split <;> omega

theorem cum_le (g : ℕ) : cum n (g + 1) ≤ (bnd n (g + 1) + 255) / 256 + g := by
  induction g with
  | zero =>
    rw [cum_succ, cum_zero]
    unfold nt
    rw [bnd_zero]
    split <;> omega
  | succ g ih =>
    rw [cum_succ]
    unfold nt
    have := bnd_succ n (g + 1)
    split <;> omega

/-- Forty grid points suffice. -/
theorem total_le : total n ≤ 40 := by
  have := cum_le n 8
  rw [bnd_nine] at this
  exact this

theorem total_ge : 32 ≤ total n := by
  have := cum_ge n 9
  rw [bnd_nine] at this
  exact this

theorem vis_lt (v : ℕ) : vis n v < total n := by
  have := total_ge n
  unfold vis; omega

theorem vis_of_lt {v : ℕ} (h : v < total n) : vis n v = v := by unfold vis; omega

/-- The number of leading groups whose visits are over at visit `w`, found between two neighbouring sums. -/
theorem count_eq {w g : ℕ} (hg : g < 9) (h1 : cum n g ≤ w) (h2 : w < cum n (g + 1)) :
    Nat.count (fun g => cum n (g + 1) ≤ w) 9 = g := by
  have e : Nat.count (fun g => cum n (g + 1) ≤ w) 9 = Nat.count (fun i => i < g) 9 := by
    simp only [Nat.count_eq_card_filter_range]
    congr 1
    apply Finset.filter_congr
    intro i _
    constructor
    · intro hi
      by_contra hc
      have := cum_mono n (show g + 1 ≤ i + 1 by omega)
      omega
    · intro hi
      have := cum_mono n (show i + 1 ≤ g by omega)
      omega
  rw [e]
  clear e h1 h2
  interval_cases g <;> decide

/-- The group visited: its visits hold the visit made. -/
theorem grp_spec (v : ℕ) : grp n v < 9 ∧ cum n (grp n v) ≤ vis n v ∧ vis n v < cum n (grp n v + 1) := by
  have hlt : vis n v < cum n 9 := vis_lt n v
  have hex : ∃ g, vis n v < cum n (g + 1) := ⟨8, hlt⟩
  classical
  have h2 := Nat.find_spec hex
  have hle : Nat.find hex ≤ 8 := Nat.find_min' hex hlt
  have h1 : cum n (Nat.find hex) ≤ vis n v := by
    rcases Nat.eq_zero_or_pos (Nat.find hex) with h0 | h0
    · rw [h0, cum_zero]; exact Nat.zero_le _
    · have hm := Nat.find_min hex (m := Nat.find hex - 1) (by omega)
      rw [show Nat.find hex - 1 + 1 = Nat.find hex by omega] at hm
      omega
  have e : grp n v = Nat.find hex := count_eq n (by omega) h1 h2
  rw [e]
  exact ⟨by omega, h1, h2⟩

theorem grp_lt (v : ℕ) : grp n v < 9 := (grp_spec n v).1

/-- The visited group and tile share a row. -/
theorem tile_spec (v : ℕ) : bnd n (grp n v) < bnd n (grp n v + 1) ∧ bnd n (grp n v) / 256 ≤ tile n v
    ∧ tile n v ≤ (bnd n (grp n v + 1) - 1) / 256 ∧ tile n v + cum n (grp n v) = bnd n (grp n v) / 256 + vis n v := by
  obtain ⟨h0, h1, h2⟩ := grp_spec n v
  rw [cum_succ] at h2
  obtain ⟨h3, h4⟩ := nt_pos n (g := grp n v) (by omega)
  refine ⟨h3, ?_, ?_, ?_⟩ <;> unfold tile <;> omega

theorem tile_lt (v : ℕ) : tile n v < 32 := by
  obtain ⟨_, _, h, _⟩ := tile_spec n v
  have := bnd_le n (grp n v + 1)
  omega

theorem expert_lt (v : ℕ) : expert n v < 8 := by unfold expert; omega

/-- After the last visit the plan stands still. -/
theorem tile_vis (v : ℕ) : tile n v = tile n (vis n v) ∧ grp n v = grp n (vis n v) := by
  have e : vis n (vis n v) = vis n v := vis_of_lt n (vis_lt n v)
  have eg : grp n v = grp n (vis n v) := by unfold grp; rw [e]
  refine ⟨?_, eg⟩
  unfold tile
  rw [← eg, e]

/-- If no visit lies between group `g`'s and group `g'`'s, the rows between them are none. -/
theorem bnd_eq_of_cum {g g' : ℕ} (h : g ≤ g') (hc : cum n g' = cum n g) : bnd n g' = bnd n g := by
  induction g', h using Nat.le_induction with
  | base => rfl
  | succ k hk ih =>
    have h1 := cum_mono n hk
    rw [cum_succ] at hc
    rw [nt_zero n (g := k) (by omega), ih (by omega)]

/-- One visit to the next: the same group and the next tile, or the next nonempty group, from the last tile of this one. -/
theorem step {v : ℕ} (h : v + 1 < total n) :
    (grp n (v + 1) = grp n v ∧ tile n (v + 1) = tile n v + 1) ∨
    (bnd n (grp n (v + 1)) = bnd n (grp n v + 1) ∧ tile n v = (bnd n (grp n v + 1) - 1) / 256
      ∧ tile n (v + 1) = bnd n (grp n (v + 1)) / 256) := by
  obtain ⟨a0, a1, a2⟩ := grp_spec n v
  obtain ⟨b0, b1, b2⟩ := grp_spec n (v + 1)
  obtain ⟨c0, c1, c2, c3⟩ := tile_spec n v
  obtain ⟨d0, d1, d2, d3⟩ := tile_spec n (v + 1)
  rw [vis_of_lt n (show v < total n by omega)] at *
  rw [vis_of_lt n h] at *
  by_cases hg : v + 1 < cum n (grp n v + 1)
  · left
    have e : grp n (v + 1) = grp n v := by
      have := count_eq n a0 (w := v + 1) (by omega) hg
      unfold grp at this ⊢
      rw [vis_of_lt n h]; exact this
    rw [e] at d3
    exact ⟨e, by omega⟩
  · right
    have hlt : grp n v + 1 ≤ grp n (v + 1) := by
      by_contra hc
      have := cum_mono n (show grp n (v + 1) + 1 ≤ grp n v + 1 by omega)
      omega
    have hm := cum_mono n hlt
    have e := bnd_eq_of_cum n hlt (by omega)
    have hs := cum_succ n (grp n v)
    obtain ⟨-, hn⟩ := nt_pos n (g := grp n v) (by omega)
    exact ⟨e, by omega, by omega⟩

/-- The next visit to the same tile goes on at the row where this one stopped. -/
theorem step_same {v : ℕ} (h : v + 1 < total n) (ht : tile n (v + 1) = tile n v) : bnd n (grp n (v + 1)) = bnd n (grp n v + 1) := by
  rcases step n h with ⟨_, h2⟩ | ⟨h1, _⟩
  · omega
  · exact h1

/-- Another tile is the next tile; this one's rows are then all done, and the next group's earlier rows lie before the
    next tile. -/
theorem step_next {v : ℕ} (h : v + 1 < total n) (ht : tile n (v + 1) ≠ tile n v) :
    tile n (v + 1) = tile n v + 1 ∧ 256 * (tile n v + 1) ≤ bnd n (grp n v + 1) ∧ bnd n (grp n (v + 1)) ≤ 256 * tile n (v + 1) := by
  obtain ⟨c0, c1, c2, c3⟩ := tile_spec n v
  obtain ⟨d0, d1, d2, d3⟩ := tile_spec n (v + 1)
  rcases step n h with ⟨h1, h2⟩ | ⟨h1, h2, h3⟩
  · rw [h1] at d2
    refine ⟨h2, ?_, ?_⟩
    · omega
    · rw [h1]; omega
  · rw [h1] at h3
    refine ⟨?_, ?_, ?_⟩
    · omega
    · omega
    · rw [h1]; omega

/-- The first visit starts at row zero, in tile zero. -/
theorem first : bnd n (grp n 0) = 0 ∧ tile n 0 = 0 := by
  obtain ⟨a0, a1, a2⟩ := grp_spec n 0
  obtain ⟨c0, c1, c2, c3⟩ := tile_spec n 0
  have ht := total_ge n
  rw [vis_of_lt n (show 0 < total n by omega)] at *
  have e := bnd_eq_of_cum n (Nat.zero_le (grp n 0)) (by rw [cum_zero]; omega)
  rw [bnd_zero] at e
  exact ⟨e, by rw [e] at c3; omega⟩

/-- The last visit ends at the last row, in the last tile. -/
theorem last : bnd n (grp n (total n - 1) + 1) = 8192 ∧ tile n (total n - 1) = 31 := by
  obtain ⟨a0, a1, a2⟩ := grp_spec n (total n - 1)
  obtain ⟨c0, c1, c2, c3⟩ := tile_spec n (total n - 1)
  have ht := total_ge n
  rw [vis_of_lt n (show total n - 1 < total n by omega)] at *
  have hm := cum_mono n (show grp n (total n - 1) + 1 ≤ 9 by omega)
  have hm' : cum n 9 = total n := rfl
  have e := bnd_eq_of_cum n (show grp n (total n - 1) + 1 ≤ 9 by omega) (by omega)
  rw [bnd_nine] at e
  have hs := cum_succ n (grp n (total n - 1))
  obtain ⟨-, hn⟩ := nt_pos n (g := grp n (total n - 1)) (by omega)
  exact ⟨e.symm, by omega⟩

/-- At a grid point after which the tile changes, or at the last one, the rows of the tile are all done. -/
theorem done {v : ℕ} (hv : v < 40) (h : v = 39 ∨ tile n (v + 1) ≠ tile n v) :
    256 * (tile n v + 1) ≤ bnd n (grp n v + 1) := by
  have ht := total_le n
  have hg := total_ge n
  by_cases hl : v + 1 < total n
  · rcases h with h | h
    · omega
    · exact (step_next n hl h).2.1
  · have e : vis n v = total n - 1 := by unfold vis; omega
    obtain ⟨e1, e2⟩ := tile_vis n v
    rw [e] at e1 e2
    rw [e1, e2, (last n).1, (last n).2]

/-- After the last visit, the tile does not change. -/
theorem tile_stay {v : ℕ} (h : total n ≤ v + 1) : tile n (v + 1) = tile n v := by
  have hg := total_ge n
  have e : vis n (v + 1) = vis n v := by unfold vis; omega
  exact ((tile_vis n (v + 1)).1.trans (congrArg (tile n) e)).trans (tile_vis n v).1.symm

/-- Every tile is visited, and has a last grid point. -/
theorem cover {T : ℕ} (hT : T < 32) : ∃ v, v < 40 ∧ tile n v = T ∧ (v = 39 ∨ tile n (v + 1) ≠ tile n v) := by
  have hg := total_ge n
  have hl := total_le n
  have hmono : Monotone (tile n) := monotone_nat_of_le_succ fun v => by
    by_cases h : v + 1 < total n
    · by_cases ht : tile n (v + 1) = tile n v
      · exact ht.ge
      · have := (step_next n h ht).1; omega
    · exact (tile_stay n (by omega)).ge
  have h39 : tile n 39 = 31 := by
    rw [(tile_vis n 39).1, show vis n 39 = total n - 1 by unfold vis; omega]
    exact (last n).2
  classical
  -- the last point at or before 39 whose tile is at most T
  have key : ∀ k, k ≤ 39 → T ≤ tile n k → ∃ v, v ≤ k ∧ tile n v = T := by
    intro k
    induction k with
    | zero => intro _ h; exact ⟨0, le_refl _, by have := (first n).2; omega⟩
    | succ k ih =>
      intro hk h
      by_cases h' : T ≤ tile n k
      · obtain ⟨v, hv, e⟩ := ih (by omega) h'
        exact ⟨v, by omega, e⟩
      · refine ⟨k + 1, le_refl _, ?_⟩
        by_cases hk' : k + 1 < total n
        · by_cases ht : tile n (k + 1) = tile n k
          · omega
          · have := (step_next n hk' ht).1; omega
        · have := tile_stay n (v := k) (by omega); omega
  obtain ⟨v, hv, e⟩ := key 39 (le_refl _) (by omega)
  -- climb to the last such point
  have climb : ∀ d v, v + d = 39 → tile n v = T → ∃ w, w < 40 ∧ tile n w = T ∧ (w = 39 ∨ tile n (w + 1) ≠ tile n w) := by
    intro d
    induction d with
    | zero => intro v h e; exact ⟨v, by omega, e, Or.inl (by omega)⟩
    | succ d ih =>
      intro v h e
      by_cases ht : tile n (v + 1) = tile n v
      · exact ih (v + 1) (by omega) (by omega)
      · exact ⟨v, by omega, e, Or.inr ht⟩
  exact climb (39 - v) v (by omega) e

end Cert.Plan

end
-- ==== Proof.Table.lean ====
/-
  The scalar table of the launch, row by row as the host operations compute it from the group sizes, read as numbers:
  at grid point `v` it holds the words of `Plan.tile`, `Plan.expert`, the bounds of the visited group, whether the
  visit is its tile's first, and whether `v` is a visit at all.
-/
module

public import proofs.«01_k».proof.Proof.Plan
public import proofs.«01_k».proof.Proof.Gen.KernelIdeal.Launch
public import Idealize.ShloMosaic.Lib.StableHlo.RunRead

@[expose] public section

noncomputable section

namespace Cert.KernelIdeal.Table

open Idealize.ShloMosaic Idealize.ShloMosaic.ValueIdx Idealize.ShloMosaic.WordCmp Cert.KernelIdeal
open Cert.KernelIdeal.Gen
open Idealize.ShloMosaic.Routing (shape0 shape1 shape2 bc0 bcRows bcCols slice1 cumsum1 reduce_count addi_ap subi_ap muli_ap iota1_ap
  ofNat32_sub pyDiv pyDiv_ap setWidth_ofBool)

/-! ## The host operations -/

/-- A scalar word over a vector of nine, of forty. -/
def c9 (v : BitVec 32) : IVec S9 32 := broadcastInDim S9 ![] bcast_S_S9 (constantI S_ 32 v)
def c40 (v : BitVec 32) : IVec S40 32 := broadcastInDim S40 ![] bcast_S_S40 (constantI S_ 32 v)
def c1 (v : BitVec 32) : IVec S1 32 := broadcastInDim S1 ![] bcast_S_S1 (constantI S_ 32 v)

/-- The ten bounds. -/
def bounds (gs : IVec S8 32) : IVec S10 32 :=
  concatenate S10 0 [⟨S1, c1 0#32⟩,
    ⟨S8, minsi (Host.reduceWindow IntOp.addi ![8] ![1] ![7] ![0] gs (broadcastInDim S_ ![] bcast_S_S_ (constantI S_ 32 0#32)) reduceWindows_S8_S8_w8s1p7_0 h_S_)
      (broadcastInDim S8 ![] bcast_S_S8 (constantI S_ 32 8192#32))⟩,
    ⟨S1, addi (c1 0#32) (c1 8192#32)⟩] concatenates_S1_S8_S1_S10_d0
/-- The groups' first rows, and the rows after their last. -/
def starts (gs : IVec S8 32) : IVec S9 32 := extractStridedSlice S9 ![0] (bounds gs) slices_S10_S9_0
def stops (gs : IVec S8 32) : IVec S9 32 := extractStridedSlice S9 ![1] (bounds gs) slices_S10_S9_1
/-- The groups' first tiles. -/
def firstTile (gs : IVec S8 32) : IVec S9 32 := pyDiv bcast_S_S9 (starts gs) (constantI S_ 32 256#32)
/-- How many tiles each group meets. -/
def tiles (gs : IVec S8 32) : IVec S9 32 :=
  select (cmpi .sgt (stops gs) (starts gs))
    (addi (subi (pyDiv bcast_S_S9 (subi (stops gs) (c9 1#32)) (constantI S_ 32 256#32)) (firstTile gs)) (c9 1#32)) (c9 0#32)
/-- The running sum of that. -/
def sums (gs : IVec S8 32) : IVec S9 32 :=
  Host.reduceWindow IntOp.addi ![9] ![1] ![8] ![0] (tiles gs) (broadcastInDim S_ ![] bcast_S_S_ (constantI S_ 32 0#32)) reduceWindows_S9_S9_w9s1p8_0 h_S_
/-- The number of visits. -/
def visits (gs : IVec S8 32) : IVec S_ 32 := shapeCast S_ (extractStridedSlice S1 ![8] (sums gs) slices_S9_S1_8) shapeCasts_S1_S_
/-- A vector of nine along the rows of a 40 × 9 array, a vector of forty along its columns. -/
def along9 (x : IVec S9 32) : IVec S40x9 32 := broadcastInDim S40x9 ![0, 1] bcast_S1x9_S40x9_0_1 (broadcastInDim S1x9 ![1] bcast_S9_S1x9_1 x)
def along40 (x : IVec S40 32) : IVec S40x9 32 := broadcastInDim S40x9 ![0, 1] bcast_S40x1_S40x9_0_1 (broadcastInDim S40x1 ![0] bcast_S40_S40x1_0 x)
/-- The visit of each grid point. -/
def visit (gs : IVec S8 32) : IVec S40 32 :=
  minsi (iotaInDim S40 32 0) (broadcastInDim S40 ![] bcast_S_S40 (subi (visits gs) (constantI S_ 32 1#32)))
/-- The group of each grid point. -/
def group (gs : IVec S8 32) : IVec S40 32 :=
  Host.reduce IntOp.addi (extui 32 (cmpi .sge (along40 (visit gs)) (along9 (sums gs))) natLt_1_32) (constantI S_ 32 0#32) reducesTo_S40x9_S40_d1 h_S_
/-- The entry of a vector of nine at each grid point's group. -/
def pick (gs : IVec S8 32) (x : IVec S9 32) : IVec S40 32 :=
  Host.reduce IntOp.addi (muli (extui 32 (cmpi .eq (along40 (group gs)) (along9 (iotaInDim S9 32 0))) natLt_1_32) (along9 x)) (constantI S_ 32 0#32)
    reducesTo_S40x9_S40_d1 h_S_
/-- The tile of each grid point. -/
def tileRow (gs : IVec S8 32) : IVec S40 32 :=
  subi (addi (pick gs (firstTile gs)) (visit gs)) (pick gs (subi (sums gs) (tiles gs)))
/-- A bound of the visited group, or zero where the group is the rest. -/
def boundRow (gs : IVec S8 32) (x : IVec S9 32) : IVec S40 32 := select (cmpi .slt (group gs) (c40 8#32)) (pick gs x) (c40 0#32)
/-- Whether the tile is another one than at the grid point before. -/
def firstRow (gs : IVec S8 32) : IVec S40 32 :=
  concatenate S40 0 [⟨S1, addi (c1 0#32) (c1 1#32)⟩,
    ⟨S39, extui 32 (cmpi .ne (extractStridedSlice S39 ![1] (tileRow gs) slices_S40_S39_1) (extractStridedSlice S39 ![0] (tileRow gs) slices_S40_S39_0)) natLt_1_32⟩]
    concatenates_S1_S39_S40_d0
/-- Whether the grid point is a visit. -/
def validRow (gs : IVec S8 32) : IVec S40 32 :=
  extui 32 (cmpi .slt (iotaInDim S40 32 0) (broadcastInDim S40 ![] bcast_S_S40 (visits gs))) natLt_1_32
/-- The expert of each grid point. -/
def expertRow (gs : IVec S8 32) : IVec S40 32 := minsi (group gs) (c40 7#32)
/-- One row of the table. -/
def row (x : IVec S40 32) : IVec S1x40 32 := broadcastInDim S1x40 ![1] bcast_S40_S1x40_1 x
/-- The table. -/
def table (gs : IVec S8 32) : IVec S6x40 32 :=
  concatenate S6x40 0 [⟨S1x40, row (tileRow gs)⟩, ⟨S1x40, row (expertRow gs)⟩, ⟨S1x40, row (boundRow gs (starts gs))⟩,
    ⟨S1x40, row (boundRow gs (stops gs))⟩, ⟨S1x40, row (firstRow gs)⟩, ⟨S1x40, row (validRow gs)⟩]
    concatenates_S1x40_S1x40_S1x40_S1x40_S1x40_S1x40_S6x40_d0

/-! ## What the launch's table buffer holds -/

/-- The host operations before the launch, in order. -/
abbrev hostOps (F : FTy → Type) [FloatOps F] : List (List (HloOp τ sig (Elt F))) :=
  [hostOps0, hostOps0_1, hostOps0_2, hostOps0_3, hostOps0_4, hostOps0_5, hostOps0_6, hostOps0_7, hostOps0_8, hostOps0_9, hostOps0_10,
    hostOps0_11, hostOps0_12]

variable {F : FTy → Type} [FloatOps F]

/-- Three pieces, each equal to another. -/
theorem cat3_congr {a a' c c' : IVec S1 32} {b b' : IVec S8 32} (ha : a = a') (hb : b = b') (hc : c = c') (h h') :
    concatenate S10 0 [⟨S1, a⟩, ⟨S8, b⟩, ⟨S1, c⟩] h = concatenate S10 0 [⟨S1, a'⟩, ⟨S8, b'⟩, ⟨S1, c'⟩] h' := by
  subst ha hb hc; rfl

theorem cat2_congr {a a' : IVec S1 32} {b b' : IVec S39 32} (ha : a = a') (hb : b = b') (h h') :
    concatenate S40 0 [⟨S1, a⟩, ⟨S39, b⟩] h = concatenate S40 0 [⟨S1, a'⟩, ⟨S39, b'⟩] h' := by
  subst ha hb; rfl

theorem cat6_congr {a a' b b' c c' d d' e e' f f' : IVec S1x40 32} (ha : a = a') (hb : b = b') (hc : c = c') (hd : d = d') (he : e = e')
    (hf : f = f') (h h') :
    concatenate S6x40 0 [⟨S1x40, a⟩, ⟨S1x40, b⟩, ⟨S1x40, c⟩, ⟨S1x40, d⟩, ⟨S1x40, e⟩, ⟨S1x40, f⟩] h
      = concatenate S6x40 0 [⟨S1x40, a'⟩, ⟨S1x40, b'⟩, ⟨S1x40, c'⟩, ⟨S1x40, d'⟩, ⟨S1x40, e'⟩, ⟨S1x40, f'⟩] h' := by
  subst ha hb hc hd he hf; rfl

theorem keep2_v3 (W : (b : DevRef τ sig) → b.ty.Contents (Elt F)) :
    StableHlo.after (hostOps0_2 : List (HloOp τ sig (Elt F))) W (Proc.devRef .tc main_v3) = W (Proc.devRef .tc main_v3) := by
  after_reads_simp

theorem keep2_v7 (W : (b : DevRef τ sig) → b.ty.Contents (Elt F)) :
    StableHlo.after (hostOps0_2 : List (HloOp τ sig (Elt F))) W (Proc.devRef .tc main_v7) = W (Proc.devRef .tc main_v7) := by
  after_reads_simp

theorem keep2_v8 (W : (b : DevRef τ sig) → b.ty.Contents (Elt F)) :
    StableHlo.after (hostOps0_2 : List (HloOp τ sig (Elt F))) W (Proc.devRef .tc main_v8) = W (Proc.devRef .tc main_v8) := by
  after_reads_simp

theorem keep3_v3 (W : (b : DevRef τ sig) → b.ty.Contents (Elt F)) :
    StableHlo.after (hostOps0_3 : List (HloOp τ sig (Elt F))) W (Proc.devRef .tc main_v3) = W (Proc.devRef .tc main_v3) := by
  after_reads_simp

theorem keep3_v7 (W : (b : DevRef τ sig) → b.ty.Contents (Elt F)) :
    StableHlo.after (hostOps0_3 : List (HloOp τ sig (Elt F))) W (Proc.devRef .tc main_v7) = W (Proc.devRef .tc main_v7) := by
  after_reads_simp

theorem keep3_v8 (W : (b : DevRef τ sig) → b.ty.Contents (Elt F)) :
    StableHlo.after (hostOps0_3 : List (HloOp τ sig (Elt F))) W (Proc.devRef .tc main_v8) = W (Proc.devRef .tc main_v8) := by
  after_reads_simp

theorem keep3_v9 (W : (b : DevRef τ sig) → b.ty.Contents (Elt F)) :
    StableHlo.after (hostOps0_3 : List (HloOp τ sig (Elt F))) W (Proc.devRef .tc main_v9) = W (Proc.devRef .tc main_v9) := by
  after_reads_simp

theorem keep4_v3 (W : (b : DevRef τ sig) → b.ty.Contents (Elt F)) :
    StableHlo.after (hostOps0_4 : List (HloOp τ sig (Elt F))) W (Proc.devRef .tc main_v3) = W (Proc.devRef .tc main_v3) := by
  after_reads_simp

theorem keep4_v7 (W : (b : DevRef τ sig) → b.ty.Contents (Elt F)) :
    StableHlo.after (hostOps0_4 : List (HloOp τ sig (Elt F))) W (Proc.devRef .tc main_v7) = W (Proc.devRef .tc main_v7) := by
  after_reads_simp

theorem keep4_v8 (W : (b : DevRef τ sig) → b.ty.Contents (Elt F)) :
    StableHlo.after (hostOps0_4 : List (HloOp τ sig (Elt F))) W (Proc.devRef .tc main_v8) = W (Proc.devRef .tc main_v8) := by
  after_reads_simp

theorem keep4_v9 (W : (b : DevRef τ sig) → b.ty.Contents (Elt F)) :
    StableHlo.after (hostOps0_4 : List (HloOp τ sig (Elt F))) W (Proc.devRef .tc main_v9) = W (Proc.devRef .tc main_v9) := by
  after_reads_simp

theorem keep4_v10 (W : (b : DevRef τ sig) → b.ty.Contents (Elt F)) :
    StableHlo.after (hostOps0_4 : List (HloOp τ sig (Elt F))) W (Proc.devRef .tc main_v10) = W (Proc.devRef .tc main_v10) := by
  after_reads_simp

theorem keep5_v3 (W : (b : DevRef τ sig) → b.ty.Contents (Elt F)) :
    StableHlo.after (hostOps0_5 : List (HloOp τ sig (Elt F))) W (Proc.devRef .tc main_v3) = W (Proc.devRef .tc main_v3) := by
  after_reads_simp

theorem keep5_v7 (W : (b : DevRef τ sig) → b.ty.Contents (Elt F)) :
    StableHlo.after (hostOps0_5 : List (HloOp τ sig (Elt F))) W (Proc.devRef .tc main_v7) = W (Proc.devRef .tc main_v7) := by
  after_reads_simp

theorem keep5_v8 (W : (b : DevRef τ sig) → b.ty.Contents (Elt F)) :
    StableHlo.after (hostOps0_5 : List (HloOp τ sig (Elt F))) W (Proc.devRef .tc main_v8) = W (Proc.devRef .tc main_v8) := by
  after_reads_simp

theorem keep5_v9 (W : (b : DevRef τ sig) → b.ty.Contents (Elt F)) :
    StableHlo.after (hostOps0_5 : List (HloOp τ sig (Elt F))) W (Proc.devRef .tc main_v9) = W (Proc.devRef .tc main_v9) := by
  after_reads_simp

theorem keep5_v10 (W : (b : DevRef τ sig) → b.ty.Contents (Elt F)) :
    StableHlo.after (hostOps0_5 : List (HloOp τ sig (Elt F))) W (Proc.devRef .tc main_v10) = W (Proc.devRef .tc main_v10) := by
  after_reads_simp

theorem keep6_v3 (W : (b : DevRef τ sig) → b.ty.Contents (Elt F)) :
    StableHlo.after (hostOps0_6 : List (HloOp τ sig (Elt F))) W (Proc.devRef .tc main_v3) = W (Proc.devRef .tc main_v3) := by
  after_reads_simp

theorem keep6_v7 (W : (b : DevRef τ sig) → b.ty.Contents (Elt F)) :
    StableHlo.after (hostOps0_6 : List (HloOp τ sig (Elt F))) W (Proc.devRef .tc main_v7) = W (Proc.devRef .tc main_v7) := by
  after_reads_simp

theorem keep6_v8 (W : (b : DevRef τ sig) → b.ty.Contents (Elt F)) :
    StableHlo.after (hostOps0_6 : List (HloOp τ sig (Elt F))) W (Proc.devRef .tc main_v8) = W (Proc.devRef .tc main_v8) := by
  after_reads_simp

theorem keep6_v9 (W : (b : DevRef τ sig) → b.ty.Contents (Elt F)) :
    StableHlo.after (hostOps0_6 : List (HloOp τ sig (Elt F))) W (Proc.devRef .tc main_v9) = W (Proc.devRef .tc main_v9) := by
  after_reads_simp

theorem keep7_v3 (W : (b : DevRef τ sig) → b.ty.Contents (Elt F)) :
    StableHlo.after (hostOps0_7 : List (HloOp τ sig (Elt F))) W (Proc.devRef .tc main_v3) = W (Proc.devRef .tc main_v3) := by
  after_reads_simp

theorem keep7_v7 (W : (b : DevRef τ sig) → b.ty.Contents (Elt F)) :
    StableHlo.after (hostOps0_7 : List (HloOp τ sig (Elt F))) W (Proc.devRef .tc main_v7) = W (Proc.devRef .tc main_v7) := by
  after_reads_simp

theorem keep7_v8 (W : (b : DevRef τ sig) → b.ty.Contents (Elt F)) :
    StableHlo.after (hostOps0_7 : List (HloOp τ sig (Elt F))) W (Proc.devRef .tc main_v8) = W (Proc.devRef .tc main_v8) := by
  after_reads_simp

theorem keep7_v9 (W : (b : DevRef τ sig) → b.ty.Contents (Elt F)) :
    StableHlo.after (hostOps0_7 : List (HloOp τ sig (Elt F))) W (Proc.devRef .tc main_v9) = W (Proc.devRef .tc main_v9) := by
  after_reads_simp

theorem keep7_v17 (W : (b : DevRef τ sig) → b.ty.Contents (Elt F)) :
    StableHlo.after (hostOps0_7 : List (HloOp τ sig (Elt F))) W (Proc.devRef .tc main_v17) = W (Proc.devRef .tc main_v17) := by
  after_reads_simp

theorem keep8_v3 (W : (b : DevRef τ sig) → b.ty.Contents (Elt F)) :
    StableHlo.after (hostOps0_8 : List (HloOp τ sig (Elt F))) W (Proc.devRef .tc main_v3) = W (Proc.devRef .tc main_v3) := by
  after_reads_simp

theorem keep8_v8 (W : (b : DevRef τ sig) → b.ty.Contents (Elt F)) :
    StableHlo.after (hostOps0_8 : List (HloOp τ sig (Elt F))) W (Proc.devRef .tc main_v8) = W (Proc.devRef .tc main_v8) := by
  after_reads_simp

theorem keep9_v3 (W : (b : DevRef τ sig) → b.ty.Contents (Elt F)) :
    StableHlo.after (hostOps0_9 : List (HloOp τ sig (Elt F))) W (Proc.devRef .tc main_v3) = W (Proc.devRef .tc main_v3) := by
  after_reads_simp

theorem keep9_v8 (W : (b : DevRef τ sig) → b.ty.Contents (Elt F)) :
    StableHlo.after (hostOps0_9 : List (HloOp τ sig (Elt F))) W (Proc.devRef .tc main_v8) = W (Proc.devRef .tc main_v8) := by
  after_reads_simp

theorem keep9_v31 (W : (b : DevRef τ sig) → b.ty.Contents (Elt F)) :
    StableHlo.after (hostOps0_9 : List (HloOp τ sig (Elt F))) W (Proc.devRef .tc main_v31) = W (Proc.devRef .tc main_v31) := by
  after_reads_simp

theorem keep9_v38 (W : (b : DevRef τ sig) → b.ty.Contents (Elt F)) :
    StableHlo.after (hostOps0_9 : List (HloOp τ sig (Elt F))) W (Proc.devRef .tc main_v38) = W (Proc.devRef .tc main_v38) := by
  after_reads_simp

theorem keep9_v49 (W : (b : DevRef τ sig) → b.ty.Contents (Elt F)) :
    StableHlo.after (hostOps0_9 : List (HloOp τ sig (Elt F))) W (Proc.devRef .tc main_v49) = W (Proc.devRef .tc main_v49) := by
  after_reads_simp

theorem keep9_v51 (W : (b : DevRef τ sig) → b.ty.Contents (Elt F)) :
    StableHlo.after (hostOps0_9 : List (HloOp τ sig (Elt F))) W (Proc.devRef .tc main_v51) = W (Proc.devRef .tc main_v51) := by
  after_reads_simp

theorem keep10_v3 (W : (b : DevRef τ sig) → b.ty.Contents (Elt F)) :
    StableHlo.after (hostOps0_10 : List (HloOp τ sig (Elt F))) W (Proc.devRef .tc main_v3) = W (Proc.devRef .tc main_v3) := by
  after_reads_simp

theorem keep10_v31 (W : (b : DevRef τ sig) → b.ty.Contents (Elt F)) :
    StableHlo.after (hostOps0_10 : List (HloOp τ sig (Elt F))) W (Proc.devRef .tc main_v31) = W (Proc.devRef .tc main_v31) := by
  after_reads_simp

theorem keep10_v49 (W : (b : DevRef τ sig) → b.ty.Contents (Elt F)) :
    StableHlo.after (hostOps0_10 : List (HloOp τ sig (Elt F))) W (Proc.devRef .tc main_v49) = W (Proc.devRef .tc main_v49) := by
  after_reads_simp

theorem keep10_v51 (W : (b : DevRef τ sig) → b.ty.Contents (Elt F)) :
    StableHlo.after (hostOps0_10 : List (HloOp τ sig (Elt F))) W (Proc.devRef .tc main_v51) = W (Proc.devRef .tc main_v51) := by
  after_reads_simp

theorem keep10_v56 (W : (b : DevRef τ sig) → b.ty.Contents (Elt F)) :
    StableHlo.after (hostOps0_10 : List (HloOp τ sig (Elt F))) W (Proc.devRef .tc main_v56) = W (Proc.devRef .tc main_v56) := by
  after_reads_simp

theorem keep11_v3 (W : (b : DevRef τ sig) → b.ty.Contents (Elt F)) :
    StableHlo.after (hostOps0_11 : List (HloOp τ sig (Elt F))) W (Proc.devRef .tc main_v3) = W (Proc.devRef .tc main_v3) := by
  after_reads_simp

theorem keep11_v31 (W : (b : DevRef τ sig) → b.ty.Contents (Elt F)) :
    StableHlo.after (hostOps0_11 : List (HloOp τ sig (Elt F))) W (Proc.devRef .tc main_v31) = W (Proc.devRef .tc main_v31) := by
  after_reads_simp

theorem keep11_v49 (W : (b : DevRef τ sig) → b.ty.Contents (Elt F)) :
    StableHlo.after (hostOps0_11 : List (HloOp τ sig (Elt F))) W (Proc.devRef .tc main_v49) = W (Proc.devRef .tc main_v49) := by
  after_reads_simp

theorem keep11_v56 (W : (b : DevRef τ sig) → b.ty.Contents (Elt F)) :
    StableHlo.after (hostOps0_11 : List (HloOp τ sig (Elt F))) W (Proc.devRef .tc main_v56) = W (Proc.devRef .tc main_v56) := by
  after_reads_simp

theorem read0 (W : (b : DevRef τ sig) → b.ty.Contents (Elt F)) (gs : IVec S8 32) (harg1 : W (Proc.devRef .tc main_arg1) = gs) :
    StableHlo.after (hostOps0 : List (HloOp τ sig (Elt F))) W (Proc.devRef .tc main_v0) = Host.reduceWindow IntOp.addi ![8] ![1] ![7] ![0] gs (broadcastInDim S_ ![] bcast_S_S_ (constantI S_ 32 0#32)) reduceWindows_S8_S8_w8s1p7_0 h_S_ := by
  after_reads_simp
  simp -implicitDefEqProofs only [StableHlo.TRef.toBuf, StableHlo.TRef.ofBuf, cast_cast, cast_eq]
  subst harg1
  rfl

theorem read1_v3 (W : (b : DevRef τ sig) → b.ty.Contents (Elt F)) :
    StableHlo.after (hostOps0_1 : List (HloOp τ sig (Elt F))) W (Proc.devRef .tc main_v3) = c1 0#32 := by
  after_reads_simp
  rfl

theorem read1_c_2 (W : (b : DevRef τ sig) → b.ty.Contents (Elt F)) :
    StableHlo.after (hostOps0_1 : List (HloOp τ sig (Elt F))) W (Proc.devRef .tc main_c_2) = constantI S_ 32 256#32 := by
  after_reads_simp

theorem read1_v7 (W : (b : DevRef τ sig) → b.ty.Contents (Elt F)) (gs : IVec S8 32) (hv0 : W (Proc.devRef .tc main_v0) = Host.reduceWindow IntOp.addi ![8] ![1] ![7] ![0] gs (broadcastInDim S_ ![] bcast_S_S_ (constantI S_ 32 0#32)) reduceWindows_S8_S8_w8s1p7_0 h_S_) :
    StableHlo.after (hostOps0_1 : List (HloOp τ sig (Elt F))) W (Proc.devRef .tc main_v7) = starts gs := by
  after_reads_simp
  exact congrArg (fun x : IVec S10 32 => extractStridedSlice S9 ![0] x slices_S10_S9_0)
    (cat3_congr (a := StableHlo.upto (hostOps0_1 : List (HloOp τ sig (Elt F))) W 8 (Proc.devRef .tc main_v3))
      (b := StableHlo.upto (hostOps0_1 : List (HloOp τ sig (Elt F))) W 8 (Proc.devRef .tc main_v2))
      (c := StableHlo.upto (hostOps0_1 : List (HloOp τ sig (Elt F))) W 8 (Proc.devRef .tc main_v5))
      (by after_reads_simp; rfl) (by after_reads_simp; rw [hv0]) (by after_reads_simp; rfl) _ _)

theorem read1_v8 (W : (b : DevRef τ sig) → b.ty.Contents (Elt F)) (gs : IVec S8 32) (hv0 : W (Proc.devRef .tc main_v0) = Host.reduceWindow IntOp.addi ![8] ![1] ![7] ![0] gs (broadcastInDim S_ ![] bcast_S_S_ (constantI S_ 32 0#32)) reduceWindows_S8_S8_w8s1p7_0 h_S_) :
    StableHlo.after (hostOps0_1 : List (HloOp τ sig (Elt F))) W (Proc.devRef .tc main_v8) = stops gs := by
  after_reads_simp
  exact congrArg (fun x : IVec S10 32 => extractStridedSlice S9 ![1] x slices_S10_S9_1)
    (cat3_congr (a := StableHlo.upto (hostOps0_1 : List (HloOp τ sig (Elt F))) W 8 (Proc.devRef .tc main_v3))
      (b := StableHlo.upto (hostOps0_1 : List (HloOp τ sig (Elt F))) W 8 (Proc.devRef .tc main_v2))
      (c := StableHlo.upto (hostOps0_1 : List (HloOp τ sig (Elt F))) W 8 (Proc.devRef .tc main_v5))
      (by after_reads_simp; rfl) (by after_reads_simp; rw [hv0]) (by after_reads_simp; rfl) _ _)

theorem read2 (W : (b : DevRef τ sig) → b.ty.Contents (Elt F)) (x : IVec S9 32) (d : IVec S_ 32) (hv7 : W (Proc.devRef .tc main_v7) = x) (hc_2 : W (Proc.devRef .tc main_c_2) = d) :
    StableHlo.after (hostOps0_2 : List (HloOp τ sig (Elt F))) W (Proc.devRef .tc main_v9) = pyDiv bcast_S_S9 x d := by
  after_reads_simp
  simp -implicitDefEqProofs only [StableHlo.TRef.toBuf, StableHlo.TRef.ofBuf, cast_cast, cast_eq]
  subst hv7 hc_2
  rfl

theorem read3_v10 (W : (b : DevRef τ sig) → b.ty.Contents (Elt F)) (x y : IVec S9 32) (hv7 : W (Proc.devRef .tc main_v7) = x) (hv8 : W (Proc.devRef .tc main_v8) = y) :
    StableHlo.after (hostOps0_3 : List (HloOp τ sig (Elt F))) W (Proc.devRef .tc main_v10) = cmpi .sgt y x := by
  after_reads_simp
  subst hv7 hv8
  rfl

theorem read3_v12 (W : (b : DevRef τ sig) → b.ty.Contents (Elt F)) (y : IVec S9 32) (hv8 : W (Proc.devRef .tc main_v8) = y) :
    StableHlo.after (hostOps0_3 : List (HloOp τ sig (Elt F))) W (Proc.devRef .tc main_v12) = subi y (c9 1#32) := by
  after_reads_simp
  subst hv8
  rfl

theorem read3_c_4 (W : (b : DevRef τ sig) → b.ty.Contents (Elt F)) :
    StableHlo.after (hostOps0_3 : List (HloOp τ sig (Elt F))) W (Proc.devRef .tc main_c_4) = constantI S_ 32 256#32 := by
  after_reads_simp

theorem read4 (W : (b : DevRef τ sig) → b.ty.Contents (Elt F)) (x : IVec S9 32) (d : IVec S_ 32) (hv12 : W (Proc.devRef .tc main_v12) = x) (hc_4 : W (Proc.devRef .tc main_c_4) = d) :
    StableHlo.after (hostOps0_4 : List (HloOp τ sig (Elt F))) W (Proc.devRef .tc main_v13) = pyDiv bcast_S_S9 x d := by
  after_reads_simp
  simp -implicitDefEqProofs only [StableHlo.TRef.toBuf, StableHlo.TRef.ofBuf, cast_cast, cast_eq]
  subst hv12 hc_4
  rfl

theorem read5_v16 (W : (b : DevRef τ sig) → b.ty.Contents (Elt F)) (x y : IVec S9 32) (hv13 : W (Proc.devRef .tc main_v13) = x) (hv9 : W (Proc.devRef .tc main_v9) = y) :
    StableHlo.after (hostOps0_5 : List (HloOp τ sig (Elt F))) W (Proc.devRef .tc main_v16) = addi (subi x y) (c9 1#32) := by
  after_reads_simp
  subst hv13 hv9
  rfl

theorem read5_c_6 (W : (b : DevRef τ sig) → b.ty.Contents (Elt F)) :
    StableHlo.after (hostOps0_5 : List (HloOp τ sig (Elt F))) W (Proc.devRef .tc main_c_6) = constantI S_ 32 0#32 := by
  after_reads_simp

theorem read6 (W : (b : DevRef τ sig) → b.ty.Contents (Elt F)) (m : IVec S9 1) (x : IVec S9 32) (d : IVec S_ 32) (hv10 : W (Proc.devRef .tc main_v10) = m) (hv16 : W (Proc.devRef .tc main_v16) = x) (hc_6 : W (Proc.devRef .tc main_c_6) = d) :
    StableHlo.after (hostOps0_6 : List (HloOp τ sig (Elt F))) W (Proc.devRef .tc main_v17) = select m x (broadcastInDim S9 ![] bcast_S_S9 d) := by
  after_reads_simp
  simp -implicitDefEqProofs only [StableHlo.TRef.toBuf, StableHlo.TRef.ofBuf, cast_cast, cast_eq]
  subst hv10 hv16 hc_6
  rfl

theorem read7 (W : (b : DevRef τ sig) → b.ty.Contents (Elt F)) (x : IVec S9 32) (hv17 : W (Proc.devRef .tc main_v17) = x) :
    StableHlo.after (hostOps0_7 : List (HloOp τ sig (Elt F))) W (Proc.devRef .tc main_v18) = Host.reduceWindow IntOp.addi ![9] ![1] ![8] ![0] x (broadcastInDim S_ ![] bcast_S_S_ (constantI S_ 32 0#32)) reduceWindows_S9_S9_w9s1p8_0 h_S_ := by
  after_reads_simp
  simp -implicitDefEqProofs only [StableHlo.TRef.toBuf, StableHlo.TRef.ofBuf, cast_cast, cast_eq]
  subst hv17
  rfl

theorem read8_v31 (W : (b : DevRef τ sig) → b.ty.Contents (Elt F)) (gs : IVec S8 32) (hv18 : W (Proc.devRef .tc main_v18) = sums gs) :
    StableHlo.after (hostOps0_8 : List (HloOp τ sig (Elt F))) W (Proc.devRef .tc main_v31) = group gs := by
  after_reads_simp
  simp only [hv18]
  rfl

theorem read8_v38 (W : (b : DevRef τ sig) → b.ty.Contents (Elt F)) (gs : IVec S8 32) (hv18 : W (Proc.devRef .tc main_v18) = sums gs) :
    StableHlo.after (hostOps0_8 : List (HloOp τ sig (Elt F))) W (Proc.devRef .tc main_v38) = extui 32 (cmpi .eq (along40 (group gs)) (along9 (iotaInDim S9 32 0))) natLt_1_32 := by
  after_reads_simp
  simp only [hv18]
  rfl

theorem read8_v49 (W : (b : DevRef τ sig) → b.ty.Contents (Elt F)) (gs : IVec S8 32) (hv9 : W (Proc.devRef .tc main_v9) = firstTile gs) (hv17 : W (Proc.devRef .tc main_v17) = tiles gs) (hv18 : W (Proc.devRef .tc main_v18) = sums gs) :
    StableHlo.after (hostOps0_8 : List (HloOp τ sig (Elt F))) W (Proc.devRef .tc main_v49) = tileRow gs := by
  after_reads_simp
  simp only [hv9, hv17, hv18]
  rfl

theorem read8_v51 (W : (b : DevRef τ sig) → b.ty.Contents (Elt F)) (gs : IVec S8 32) (hv18 : W (Proc.devRef .tc main_v18) = sums gs) :
    StableHlo.after (hostOps0_8 : List (HloOp τ sig (Elt F))) W (Proc.devRef .tc main_v51) = cmpi .slt (group gs) (c40 8#32) := by
  after_reads_simp
  simp only [hv18]
  rfl

theorem read8_v55 (W : (b : DevRef τ sig) → b.ty.Contents (Elt F)) (gs : IVec S8 32) (hv7 : W (Proc.devRef .tc main_v7) = starts gs) (hv18 : W (Proc.devRef .tc main_v18) = sums gs) :
    StableHlo.after (hostOps0_8 : List (HloOp τ sig (Elt F))) W (Proc.devRef .tc main_v55) = pick gs (starts gs) := by
  after_reads_simp
  simp only [hv7, hv18]
  rfl

theorem read8_c_13 (W : (b : DevRef τ sig) → b.ty.Contents (Elt F)) :
    StableHlo.after (hostOps0_8 : List (HloOp τ sig (Elt F))) W (Proc.devRef .tc main_c_13) = constantI S_ 32 0#32 := by
  after_reads_simp

theorem read9 (W : (b : DevRef τ sig) → b.ty.Contents (Elt F)) (m : IVec S40 1) (x : IVec S40 32) (d : IVec S_ 32) (hv51 : W (Proc.devRef .tc main_v51) = m) (hv55 : W (Proc.devRef .tc main_v55) = x) (hc_13 : W (Proc.devRef .tc main_c_13) = d) :
    StableHlo.after (hostOps0_9 : List (HloOp τ sig (Elt F))) W (Proc.devRef .tc main_v56) = select m x (broadcastInDim S40 ![] bcast_S_S40 d) := by
  after_reads_simp
  simp -implicitDefEqProofs only [StableHlo.TRef.toBuf, StableHlo.TRef.ofBuf, cast_cast, cast_eq]
  subst hv51 hv55 hc_13
  rfl

theorem read10 (W : (b : DevRef τ sig) → b.ty.Contents (Elt F)) (gs : IVec S8 32) (x : IVec S9 32) (hv8 : W (Proc.devRef .tc main_v8) = x) (hv38 : W (Proc.devRef .tc main_v38) = extui 32 (cmpi .eq (along40 (group gs)) (along9 (iotaInDim S9 32 0))) natLt_1_32) :
    StableHlo.after (hostOps0_10 : List (HloOp τ sig (Elt F))) W (Proc.devRef .tc main_v60) = pick gs x := by
  after_reads_simp
  simp only [hv8, hv38]
  rfl

theorem read10_c_15 (W : (b : DevRef τ sig) → b.ty.Contents (Elt F)) :
    StableHlo.after (hostOps0_10 : List (HloOp τ sig (Elt F))) W (Proc.devRef .tc main_c_15) = constantI S_ 32 0#32 := by
  after_reads_simp

theorem read11 (W : (b : DevRef τ sig) → b.ty.Contents (Elt F)) (m : IVec S40 1) (x : IVec S40 32) (d : IVec S_ 32) (hv51 : W (Proc.devRef .tc main_v51) = m) (hv60 : W (Proc.devRef .tc main_v60) = x) (hc_15 : W (Proc.devRef .tc main_c_15) = d) :
    StableHlo.after (hostOps0_11 : List (HloOp τ sig (Elt F))) W (Proc.devRef .tc main_v61) = select m x (broadcastInDim S40 ![] bcast_S_S40 d) := by
  after_reads_simp
  simp -implicitDefEqProofs only [StableHlo.TRef.toBuf, StableHlo.TRef.ofBuf, cast_cast, cast_eq]
  subst hv51 hv60 hc_15
  rfl

theorem read8_v20 (W : (b : DevRef τ sig) → b.ty.Contents (Elt F)) (gs : IVec S8 32) (hv18 : W (Proc.devRef .tc main_v18) = sums gs) :
    StableHlo.after (hostOps0_8 : List (HloOp τ sig (Elt F))) W (Proc.devRef .tc main_v20) = visits gs := by
  after_reads_simp
  simp only [hv18]
  rfl
theorem read8_v21 (W : (b : DevRef τ sig) → b.ty.Contents (Elt F)) :
    StableHlo.after (hostOps0_8 : List (HloOp τ sig (Elt F))) W (Proc.devRef .tc main_v21) = iotaInDim S40 32 0 := by
  after_reads_simp
theorem keep9_v20 (W : (b : DevRef τ sig) → b.ty.Contents (Elt F)) :
    StableHlo.after (hostOps0_9 : List (HloOp τ sig (Elt F))) W (Proc.devRef .tc main_v20) = W (Proc.devRef .tc main_v20) := by
  after_reads_simp
theorem keep9_v21 (W : (b : DevRef τ sig) → b.ty.Contents (Elt F)) :
    StableHlo.after (hostOps0_9 : List (HloOp τ sig (Elt F))) W (Proc.devRef .tc main_v21) = W (Proc.devRef .tc main_v21) := by
  after_reads_simp
theorem keep10_v20 (W : (b : DevRef τ sig) → b.ty.Contents (Elt F)) :
    StableHlo.after (hostOps0_10 : List (HloOp τ sig (Elt F))) W (Proc.devRef .tc main_v20) = W (Proc.devRef .tc main_v20) := by
  after_reads_simp
theorem keep10_v21 (W : (b : DevRef τ sig) → b.ty.Contents (Elt F)) :
    StableHlo.after (hostOps0_10 : List (HloOp τ sig (Elt F))) W (Proc.devRef .tc main_v21) = W (Proc.devRef .tc main_v21) := by
  after_reads_simp
theorem keep11_v20 (W : (b : DevRef τ sig) → b.ty.Contents (Elt F)) :
    StableHlo.after (hostOps0_11 : List (HloOp τ sig (Elt F))) W (Proc.devRef .tc main_v20) = W (Proc.devRef .tc main_v20) := by
  after_reads_simp
theorem keep11_v21 (W : (b : DevRef τ sig) → b.ty.Contents (Elt F)) :
    StableHlo.after (hostOps0_11 : List (HloOp τ sig (Elt F))) W (Proc.devRef .tc main_v21) = W (Proc.devRef .tc main_v21) := by
  after_reads_simp

theorem read12 (W : (b : DevRef τ sig) → b.ty.Contents (Elt F)) (gs : IVec S8 32) (hv3 : W (Proc.devRef .tc main_v3) = c1 0#32)
    (hv20 : W (Proc.devRef .tc main_v20) = visits gs) (hv21 : W (Proc.devRef .tc main_v21) = iotaInDim S40 32 0)
    (hv31 : W (Proc.devRef .tc main_v31) = group gs) (hv49 : W (Proc.devRef .tc main_v49) = tileRow gs)
    (hv56 : W (Proc.devRef .tc main_v56) = boundRow gs (starts gs)) (hv61 : W (Proc.devRef .tc main_v61) = boundRow gs (stops gs)) :
    StableHlo.after (hostOps0_12 : List (HloOp τ sig (Elt F))) W (Proc.devRef .tc main_v80) = table gs := by
  after_reads_simp
  refine cat6_congr (a := StableHlo.upto (hostOps0_12 : List (HloOp τ sig (Elt F))) W 20 (Proc.devRef .tc main_v74))
    (b := StableHlo.upto (hostOps0_12 : List (HloOp τ sig (Elt F))) W 20 (Proc.devRef .tc main_v75))
    (c := StableHlo.upto (hostOps0_12 : List (HloOp τ sig (Elt F))) W 20 (Proc.devRef .tc main_v76))
    (d := StableHlo.upto (hostOps0_12 : List (HloOp τ sig (Elt F))) W 20 (Proc.devRef .tc main_v77))
    (e := StableHlo.upto (hostOps0_12 : List (HloOp τ sig (Elt F))) W 20 (Proc.devRef .tc main_v78))
    (f := StableHlo.upto (hostOps0_12 : List (HloOp τ sig (Elt F))) W 20 (Proc.devRef .tc main_v79)) ?_ ?_ ?_ ?_ ?_ ?_ _ _
  · after_reads_simp; rw [hv49]; rfl
  · after_reads_simp; rw [hv31]; rfl
  · after_reads_simp; rw [hv56]; rfl
  · after_reads_simp; rw [hv61]; rfl
  · after_reads_simp
    exact congrArg row (cat2_congr (a := StableHlo.upto (hostOps0_12 : List (HloOp τ sig (Elt F))) W 7 (Proc.devRef .tc main_v63))
      (b := StableHlo.upto (hostOps0_12 : List (HloOp τ sig (Elt F))) W 7 (Proc.devRef .tc main_v67))
      (by after_reads_simp; rw [hv3]; rfl) (by after_reads_simp; rw [hv49]) _ _)
  · after_reads_simp; rw [hv20, hv21]; rfl

/-- The table buffer holds `table` of the group sizes when the launch begins. -/
theorem read_table (V : (b : DevRef τ sig) → b.ty.Contents (Elt F)) (gs : IVec S8 32) (hg : V (Proc.devRef .tc main_arg1) = gs) :
    StableHlo.after (hostOps F).flatten V (Proc.devRef .tc main_v80) = table gs := by
  simp only [hostOps, List.flatten_cons, List.flatten_nil, List.append_nil, StableHlo.after_append]
  have e0 := read0 V gs hg
  generalize StableHlo.after (hostOps0 : List (HloOp τ sig (Elt F))) V = W0 at *
  have e3 := read1_v3 W0
  have e7 := read1_v7 W0 gs e0
  have e8 := read1_v8 W0 gs e0
  have ec := read1_c_2 W0
  generalize StableHlo.after (hostOps0_1 : List (HloOp τ sig (Elt F))) W0 = W1 at *
  have e9 := read2 W1 _ _ e7 ec
  replace e3 := (keep2_v3 W1).trans e3
  replace e7 := (keep2_v7 W1).trans e7
  replace e8 := (keep2_v8 W1).trans e8
  clear ec
  generalize StableHlo.after (hostOps0_2 : List (HloOp τ sig (Elt F))) W1 = W2 at *
  have e10 := read3_v10 W2 _ _ e7 e8
  have e12 := read3_v12 W2 _ e8
  have ec := read3_c_4 W2
  replace e3 := (keep3_v3 W2).trans e3
  replace e7 := (keep3_v7 W2).trans e7
  replace e8 := (keep3_v8 W2).trans e8
  replace e9 := (keep3_v9 W2).trans e9
  generalize StableHlo.after (hostOps0_3 : List (HloOp τ sig (Elt F))) W2 = W3 at *
  have e13 := read4 W3 _ _ e12 ec
  replace e3 := (keep4_v3 W3).trans e3
  replace e7 := (keep4_v7 W3).trans e7
  replace e8 := (keep4_v8 W3).trans e8
  replace e9 := (keep4_v9 W3).trans e9
  replace e10 := (keep4_v10 W3).trans e10
  clear ec e12
  generalize StableHlo.after (hostOps0_4 : List (HloOp τ sig (Elt F))) W3 = W4 at *
  have e16 := read5_v16 W4 _ _ e13 e9
  have ec := read5_c_6 W4
  replace e3 := (keep5_v3 W4).trans e3
  replace e7 := (keep5_v7 W4).trans e7
  replace e8 := (keep5_v8 W4).trans e8
  replace e9 := (keep5_v9 W4).trans e9
  replace e10 := (keep5_v10 W4).trans e10
  clear e13
  generalize StableHlo.after (hostOps0_5 : List (HloOp τ sig (Elt F))) W4 = W5 at *
  have e17 : _ = tiles gs := read6 W5 _ _ _ e10 e16 ec
  replace e3 := (keep6_v3 W5).trans e3
  replace e7 := (keep6_v7 W5).trans e7
  replace e8 := (keep6_v8 W5).trans e8
  replace e9 := (keep6_v9 W5).trans e9
  clear ec e16 e10
  generalize StableHlo.after (hostOps0_6 : List (HloOp τ sig (Elt F))) W5 = W6 at *
  have e18 : _ = sums gs := read7 W6 _ e17
  replace e3 := (keep7_v3 W6).trans e3
  replace e7 := (keep7_v7 W6).trans e7
  replace e8 := (keep7_v8 W6).trans e8
  replace e9 := (keep7_v9 W6).trans e9
  replace e17 := (keep7_v17 W6).trans e17
  generalize StableHlo.after (hostOps0_7 : List (HloOp τ sig (Elt F))) W6 = W7 at *
  have e31 := read8_v31 W7 _ e18
  have e38 := read8_v38 W7 _ e18
  have e49 := read8_v49 W7 _ e9 e17 e18
  have e51 := read8_v51 W7 _ e18
  have e55 := read8_v55 W7 _ e7 e18
  have e20 := read8_v20 W7 _ e18
  have e21 := read8_v21 W7
  have ec := read8_c_13 W7
  replace e3 := (keep8_v3 W7).trans e3
  replace e8 := (keep8_v8 W7).trans e8
  clear e7 e9 e17 e18
  generalize StableHlo.after (hostOps0_8 : List (HloOp τ sig (Elt F))) W7 = W8 at *
  have e56 := read9 W8 _ _ _ e51 e55 ec
  replace e3 := (keep9_v3 W8).trans e3
  replace e8 := (keep9_v8 W8).trans e8
  replace e20 := (keep9_v20 W8).trans e20
  replace e21 := (keep9_v21 W8).trans e21
  replace e31 := (keep9_v31 W8).trans e31
  replace e38 := (keep9_v38 W8).trans e38
  replace e49 := (keep9_v49 W8).trans e49
  replace e51 := (keep9_v51 W8).trans e51
  clear ec e55
  generalize StableHlo.after (hostOps0_9 : List (HloOp τ sig (Elt F))) W8 = W9 at *
  have e60 := read10 W9 _ _ e8 e38
  have ec := read10_c_15 W9
  replace e3 := (keep10_v3 W9).trans e3
  replace e20 := (keep10_v20 W9).trans e20
  replace e21 := (keep10_v21 W9).trans e21
  replace e31 := (keep10_v31 W9).trans e31
  replace e49 := (keep10_v49 W9).trans e49
  replace e51 := (keep10_v51 W9).trans e51
  replace e56 := (keep10_v56 W9).trans e56
  clear e38 e8
  generalize StableHlo.after (hostOps0_10 : List (HloOp τ sig (Elt F))) W9 = W10 at *
  have e61 := read11 W10 _ _ _ e51 e60 ec
  replace e3 := (keep11_v3 W10).trans e3
  replace e20 := (keep11_v20 W10).trans e20
  replace e21 := (keep11_v21 W10).trans e21
  replace e31 := (keep11_v31 W10).trans e31
  replace e49 := (keep11_v49 W10).trans e49
  replace e56 := (keep11_v56 W10).trans e56
  exact read12 _ gs e3 e20 e21 e31 e49 e56 e61

end Cert.KernelIdeal.Table
-- ==== Proof.Run.lean ====
/-
  The kernel's run. The scalar table decides at each visit which block of rows and which expert's weights the visit works on, and
  whether the visit has work at all; the scratch buffer carries a block's rows from one visit to the next. `rdat` says, visit by
  visit, what the body may leave in the two results' blocks: at a visit with work, what the body stores when the scratch buffer
  holds something the visits before could have left in it; at a padding visit, what was there.
-/
module

public import proofs.«01_k».proof.Proof.Body
public import proofs.«01_k».proof.Proof.Table
public import Idealize.ShloMosaic.Lib.Pipeline.Frame

@[expose] public section

set_option maxRecDepth 16384

noncomputable section

namespace Cert.KernelIdeal.Run

open Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf arrRef)

variable {F : FTy → Type} [FloatOps F]

/-! ## What one visit stores, read back -/

section Pieces

variable (c : Dev nD) (i : grid0.Coords) (arg1 : Memref sig .tc .smem S6x40 .i32) (harg1 : arg1.IsWhole)
    (arg2 : Memref sig .tc .vmem S256x1024 .bf16) (harg2 : arg2.IsWhole) (arg3 : Memref sig .tc .vmem S1x1024x5632 .fp8e4m3) (harg3 : arg3.IsWhole)
    (arg4 : Memref sig .tc .vmem S1x1x5632 .f32) (harg4 : arg4.IsWhole) (arg5 : Memref sig .tc .vmem S256x2816 .fp8e4m3) (harg5 : arg5.IsWhole)
    (arg6 : Memref sig .tc .vmem S256x1 .f32) (harg6 : arg6.IsWhole) (arg7 : Memref sig .tc .vmem S256x2816 .f32) (harg7 : arg7.IsWhole)
    (x1 : Vec F S6x40 .i32) (x2 : Vec F S256x1024 .bf16) (x3 : Vec F S1x1024x5632 .fp8e4m3) (x4 : Vec F S1x1x5632 .f32) (x7 : Vec F S256x2816 .f32)

/-- The stores into the codes' block tile it. -/
theorem cover5 (y : S256x2816.Idx) :
    ∃ pc ∈ (kernelRun c i arg1 harg1 arg2 harg2 arg3 harg3 arg4 harg4 arg5 harg5 arg6 harg6 arg7 harg7 x1 x2 x3 x4 x7).1, y ∈ pc.1.set :=
  View.cover_of_tiledL (s := S256x2816) _ ![256, 256] (by sl_kernel_rfl) y

/-- The store into the scales' block fills it. -/
theorem cover6 (y : S256x1.Idx) :
    ∃ pc ∈ (kernelRun c i arg1 harg1 arg2 harg2 arg3 harg3 arg4 harg4 arg5 harg5 arg6 harg6 arg7 harg7 x1 x2 x3 x4 x7).2.1, y ∈ pc.1.set :=
  View.cover_of_tiledL _ S256x1.size (by sl_kernel_rfl) y

/-- The stores into the scratch buffer tile it. -/
theorem cover7 (y : S256x2816.Idx) :
    ∃ pc ∈ (kernelRun c i arg1 harg1 arg2 harg2 arg3 harg3 arg4 harg4 arg5 harg5 arg6 harg6 arg7 harg7 x1 x2 x3 x4 x7).2.2.1, y ∈ pc.1.set :=
  View.cover_of_tiledL (s := S256x2816) _ ![256, 256] (by sl_kernel_rfl) y

end Pieces

/-! ## The visits -/

section Visits

variable (a : (pcfg0 (F := F)).Adm) (V : (c : Dev nD) → (b : Ref sig .tc) → Buf (Elt F) ((c : Thread nD τ).loc b)) (c : Dev nD)

/-- The table. -/
abbrev tab : Vec F S6x40 .i32 := a.1 0

/-- The rows' block at a visit. -/
abbrev xB (t : Fin (cfg0 a).N) : Vec F S256x1024 .bf16 := (((cfg0 a).win 0).blk t).view.read (Elt F) (V c (arrRef (cfg0 a).spec 0))
/-- The weights' block at a visit. -/
abbrev wB (t : Fin (cfg0 a).N) : Vec F S1x1024x5632 .fp8e4m3 := (((cfg0 a).win 1).blk t).view.read (Elt F) (V c (arrRef (cfg0 a).spec 1))
/-- The weights' scales at a visit. -/
abbrev sB (t : Fin (cfg0 a).N) : Vec F S1x1x5632 .f32 := (((cfg0 a).win 2).blk t).view.read (Elt F) (V c (arrRef (cfg0 a).spec 2))

/-- Whether a visit has work. -/
abbrev valid (t : Fin (cfg0 a).N) : Prop :=
  k0_cond1 (validWord (F := F) ((cfg0 a).grid.coords t) (Memref.whole main_v80) (Memref.isWhole_whole _) (tab a)) = 1#1

/-- The body's run at visit `t`, the scratch buffer holding `h`. -/
abbrev runAt (t : Fin (cfg0 a).N) (h : Vec F S256x2816 .f32) :=
  kernelRun c ((cfg0 a).grid.coords t) (Memref.whole main_v80) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    (Memref.whole cc0_scratch0) (Memref.isWhole_whole _) (tab a) (xB a V c t) (wB a V c t) (sB a V c t) h

/-- The view the contents left behind are stated through: any one would do, the stores covering the buffer. -/
abbrev VH : View sig .tc .vmem S256x2816 .f32 := (Memref.whole cc0_scratch0 : Memref sig .tc .vmem S256x2816 .f32).view
/-- The same for the codes. -/
abbrev VC : View sig .tc .vmem S256x2816 .fp8e4m3 := (stage0_3 0).view
/-- The same for the scales. -/
abbrev VS : View sig .tc .vmem S256x1 .f32 := (stage0_4 0).view

/-- What visit `t` leaves in the codes' block. -/
def codesOut (t : Fin (cfg0 a).N) (h : Vec F S256x2816 .f32) : Vec F S256x2816 .fp8e4m3 :=
  VC.read (Elt F) (VC.writes (Elt F) VC.junk (runAt a V c t h).1)

/-- What visit `t` leaves in the scales' block. -/
def scaleOut (t : Fin (cfg0 a).N) (h : Vec F S256x2816 .f32) : Vec F S256x1 .f32 :=
  VS.read (Elt F) (VS.writes (Elt F) VS.junk (runAt a V c t h).2.1)

/-- What visit `t` leaves in the scratch buffer. -/
def hOut (t : Fin (cfg0 a).N) (h : Vec F S256x2816 .f32) : Vec F S256x2816 .f32 :=
  VH.read (Elt F) (VH.writes (Elt F) VH.junk (runAt a V c t h).2.2.1)

/-- What the scratch buffer may hold before visit `n`: at first anything; then what a visit with work leaves in it, a padding
    visit changing nothing. -/
def Reach : ℕ → Vec F S256x2816 .f32 → Prop
  | 0, _ => True
  | n + 1, h' => if hn : n < (cfg0 a).N then
      (valid a ⟨n, hn⟩ ∧ ∃ h, Reach n h ∧ h' = hOut a V c ⟨n, hn⟩ h) ∨ (¬ valid a ⟨n, hn⟩ ∧ Reach n h')
    else False

/-- What the body carries from visit to visit: the scratch buffer at something it may hold, the table, and the generator. -/
def Phi (n : ℕ) : sProp (Model F) :=
  iprop((∃ h, ⌜Reach a V c n h⌝ ∗ owns (c : Thread nD τ) (Memref.whole cc0_scratch0) fullShare h)
    ∗ owns (c : Thread nD τ) (Memref.whole main_v80) fullShare.right (tab a) ∗ (∃ r, prngReg c r))

/-- What each visit may leave in each window's buffer: the inputs' as they were; the results' at what a visit with work stores, a
    padding visit leaving what was there. -/
def aft : (w : Fin (cfg0 a).W) → Fin (cfg0 a).N → (Y X : ((cfg0 a).win w).block.Idx → Elt F ((cfg0 a).win w).elt) → Prop
  | 0, _ => fun Y X => X = Y
  | 1, _ => fun Y X => X = Y
  | 2, _ => fun Y X => X = Y
  | 3, t => fun Y X => (valid a t ∧ ∃ h, Reach a V c t.val h ∧ X = codesOut a V c t h) ∨ (¬ valid a t ∧ X = Y)
  | 4, t => fun Y X => (valid a t ∧ ∃ h, Reach a V c t.val h ∧ X = scaleOut a V c t h) ∨ (¬ valid a t ∧ X = Y)
  | ⟨_ + 5, h⟩, _ => absurd h (Nat.not_lt.2 (Nat.le_add_left _ _))

/-- The run's data. -/
def rdat : RDat τ (Elt F) Unit ℕ (UR sig nD τ) ℕ (cfg0 a) c where
  A w := V c (arrRef (cfg0 a).spec w)
  after := aft a V c
  Φ t := Phi a V c t.val
  q _ := fullShare
  owed _ := 0

/-- The rows' buffer holds the rows' block at every visit. -/
theorem finds0 (t : Fin (cfg0 a).N) (Y) (hY : (rdat a V c).Finds 0 t Y) : Y = xB a V c t := by
  obtain ⟨d, hd⟩ := (rdat a V c).finds_in_eq_fetched 0 rfl (fun _ _ _ => rfl) (fun t Y X h => h) t Y hY
  exact hd

/-- The weights' buffer holds the weights' block at every visit. -/
theorem finds1 (t : Fin (cfg0 a).N) (Y) (hY : (rdat a V c).Finds 1 t Y) : Y = wB a V c t := by
  obtain ⟨d, hd⟩ := (rdat a V c).finds_in_eq_fetched 1 rfl (fun _ _ _ => rfl) (fun t Y X h => h) t Y hY
  exact hd

/-- The scales' buffer holds the weights' scales at every visit. -/
theorem finds2 (t : Fin (cfg0 a).N) (Y) (hY : (rdat a V c).Finds 2 t Y) : Y = sB a V c t := by
  obtain ⟨d, hd⟩ := (rdat a V c).finds_in_eq_fetched 2 rfl (fun _ _ _ => rfl) (fun t Y X h => h) t Y hY
  exact hd

/-- Writes covering a buffer leave it owned at what they read back as, through any view. -/
theorem owns_writes {sp sp' : Space} {s : Shape} {e : EltTy} (m : Memref sig .tc sp s e) (v' : View sig .tc sp' s e) (f')
    (L : List (View.Piece (Elt F) s e)) (h : ∀ y, ∃ p ∈ L, y ∈ p.1.set) (f) :
    (m.view.loc (c : Thread nD τ) ↦[m.view.set]{fullShare} m.view.writes (Elt F) f L : sProp (Model F))
      ⊢ owns (c : Thread nD τ) m fullShare (v'.read (Elt F) (v'.writes (Elt F) f' L)) := by
  unfold owns; iintro H; iexists _; isplitr; swap; · iexact H
  ipureintro; exact View.read_writes_of_cover _ _ _ _ _ h

set_option maxHeartbeats 1000000 in
/-- The body at every visit. -/
theorem body : (rdat a V c).BodyObligation (defs₀ (F := F)) Variants.none () Set.univ := by
  intro t Y hY
  have h0 := finds0 a V c t _ (hY 0)
  have h1 := finds1 a V c t _ (hY 1)
  have h2 := finds2 a V c t _ (hY 2)
  generalize hDef : (defs₀ (F := F)) .tc (cfg0 a).body ((cfg0 a).bodyArgs t ((cfg0 a).slots t)) = P
  have hP : P = cc0_moe_gate_up_swiglu_fp8 ((cfg0 a).grid.coords t) (Memref.whole main_v80) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    (Memref.whole cc0_scratch0) (Memref.isWhole_whole _) := by
    rw [← hDef]; unfold defs₀; rw [Defs.onTc_tc]
  clear hDef; subst hP
  have hO : (rdat a V c).owesAt () t.succ = (rdat a V c).owesAt () t.castSucc := rfl
  rw [bigSep_W0]
  simp only [bigSep_W0]
  have hΦ : (rdat a V c).Φ t.castSucc = Phi a V c t.val := rfl
  have hΦ' : (rdat a V c).Φ t.succ = Phi a V c (t.val + 1) := rfl
  rw [hO, hΦ, hΦ']
  unfold Phi
  iintro ⟨⟨⟨%h, %hR, Hh⟩, HT, Hp⟩, Ho, H0, H1, H2, H3, H4⟩
  by_cases hv : valid a t
  · iapply (runAt a V c t h).2.2.2 hv fullShare.right
    isplitl [HT]; · iexact HT
    isplitl [H0]; · rw [h0]; iexact H0
    isplitl [H1]; · rw [h1]; iexact H1
    isplitl [H2]; · rw [h2]; iexact H2
    isplitl [H3]; · iexists _; iexact H3
    isplitl [H4]; · iexists _; iexact H4
    isplitl [Hh]; · iexact Hh
    iintro ⟨HT, H0, H1, H2, ⟨%f3, H3⟩, ⟨%f4, H4⟩, ⟨%f5, Hh⟩⟩
    isplitl [Hh HT Hp]
    · isplitl [Hh]
      · iexists (hOut a V c t h); isplitr
        · ipureintro
          unfold Reach; rw [dif_pos t.isLt]; exact Or.inl ⟨hv, h, hR, rfl⟩
        · iapply (owns_writes c (Memref.whole cc0_scratch0) VH VH.junk (runAt a V c t h).2.2.1 (fun y => cover7 .. ) f5); iexact Hh
      isplitl [HT]; · iexact HT
      iexact Hp
    isplitl [Ho]; · iexact Ho
    isplitl [H0]; · iexists _; isplitr; swap; · iexact H0
                    ipureintro; exact h0.symm
    isplitl [H1]; · iexists _; isplitr; swap; · iexact H1
                    ipureintro; exact h1.symm
    isplitl [H2]; · iexists _; isplitr; swap; · iexact H2
                    ipureintro; exact h2.symm
    isplitl [H3]
    · iexists (codesOut a V c t h); isplitr
      · ipureintro; exact Or.inl ⟨hv, h, hR, rfl⟩
      · iapply (owns_writes c (spec0_3.stage ((cfg0 a).slots t 3)) VC VC.junk (runAt a V c t h).1 (fun y => cover5 .. ) f3); iexact H3
    iexists (scaleOut a V c t h); isplitr
    · ipureintro; exact Or.inl ⟨hv, h, hR, rfl⟩
    · iapply (owns_writes c (spec0_4.stage ((cfg0 a).slots t 4)) VS VS.junk (runAt a V c t h).2.1 (fun y => cover6 .. ) f4); iexact H4
  · iapply (kernelRun_idle c _ _ _ _ _ _ _ _ _ _ _ _ _ _ _ (tab a) hv fullShare.right)
    isplitl [HT]; · iexact HT
    iintro HT
    isplitl [Hh HT Hp]
    · isplitl [Hh]
      · iexists h; isplitr
        · ipureintro
          unfold Reach; rw [dif_pos t.isLt]; exact Or.inr ⟨hv, hR⟩
        · iexact Hh
      isplitl [HT]; · iexact HT
      iexact Hp
    isplitl [Ho]; · iexact Ho
    isplitl [H0]; · iexists _; isplitr; swap; · iexact H0
                    ipureintro; exact rfl
    isplitl [H1]; · iexists _; isplitr; swap; · iexact H1
                    ipureintro; exact rfl
    isplitl [H2]; · iexists _; isplitr; swap; · iexact H2
                    ipureintro; exact rfl
    isplitl [H3]; · iexists _; isplitr; swap; · iexact H3
                    ipureintro; exact Or.inr ⟨hv, rfl⟩
    iexists _; isplitr; swap; · iexact H4
    ipureintro; exact Or.inr ⟨hv, rfl⟩

/-- The scratch buffer, the generator and the body's half of the table, as the run starts. -/
theorem phi_in : iprop(Pipeline.ΦA (cfg0 a).spec c ∗ Pipeline.ΦT (pre0) a.1 c) ⊢ (rdat a V c).Φ 0 := by
  have hΦ : (rdat a V c).Φ 0 = Phi a V c 0 := rfl
  rw [hΦ]; unfold Pipeline.ΦA Pipeline.ΦT Phi Pipeline.prefHeld
  rw [show (Finset.univ : Finset (Fin 1)) = {0} from rfl, bigSep_singleton]
  rw [show Pipeline.scopedRest (cfg0 a).spec c = _ from scopedRest0_eq (Val := Elt F) c, owns_whole]
  iintro ⟨⟨⟨%f, Hf⟩, Hp⟩, HT⟩
  isplitl [Hf]
  · iexists f; isplitr
    · ipureintro; trivial
    · rw [owns_whole]; iexact Hf
  isplitl [HT]; · iexact HT
  iexact Hp

/-- And as it ends. -/
theorem phi_out : (rdat a V c).Φ (Fin.last (cfg0 a).N) ⊢ Pipeline.ΦA (cfg0 a).spec c := by
  have hΦ : (rdat a V c).Φ (Fin.last (cfg0 a).N) = Phi a V c (cfg0 a).N := rfl
  rw [hΦ]; unfold Pipeline.ΦA Phi
  rw [show Pipeline.scopedRest (cfg0 a).spec c = _ from scopedRest0_eq (Val := Elt F) c]
  iintro ⟨⟨%h, -, Hh⟩, -, Hp⟩
  isplitl [Hh]
  · iexists h; rw [← owns_whole]; iexact Hh
  iexact Hp

end Visits

/-! ## The launch -/

/-- No host operation allocates. -/
theorem hostOps_fresh : (Table.hostOps F).Forall fun ops => ops.Forall fun op => op.fresh = ∅ := by
  unfold Table.hostOps
  repeat' first | exact rfl | constructor

/-- The host operations touch the core's own buffers. -/
theorem hostOps_sub : (Table.hostOps F).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub,
    hostOps0_8_sub, hostOps0_9_sub, hostOps0_10_sub, hostOps0_11_sub, hostOps0_12_sub⟩

/-- What the arrays hold once the host operations have run. -/
def atRegion (m : (ℓ : Loc nD τ sig) → Buf (Elt F) ℓ) (c : Dev nD) (b : Ref sig .tc) : Buf (Elt F) ((c : Thread nD τ).loc b) :=
  StableHlo.after (Table.hostOps F).flatten (fun b => m (c, b)) b

/-- The program runs, whatever admissible table `a` the host operations leave in the table's buffer: each array ends as the run's
    data say, every buffer no window touches as the host operations left it, and the semaphores at zero. -/
theorem run (a : (pcfg0 (F := F)).Adm) (m : (ℓ : Loc nD τ sig) → Buf (Elt F) ℓ) (g : Dev nD → PrngReg)
    (htab : ∀ c, atRegion m c main_v80 = tab a) :
    θ_run (defs (F := F)) (onTc (main (F := F))) ⟨m, fun _ => 0, g⟩
      (fun r => Pipeline.RDat.FramePost (cfg0 a) (rdat a (atRegion m)) (atRegion m) r ∧ r.2.sem = fun _ => 0) :=
  Pipeline.RDat.θ_run_frameP_track (pcfgs (F := F)) (fun _ => a) 0 launch0 (defs₀ (F := F)) Variants.none (rdat a (atRegion m)) m g
    main (body a (atRegion m)) (fun c w => (rdat a (atRegion m) c).share_full (fun _ => rfl) w) (fun _ _ => rfl) (atRegion m)
    (Pipeline.hmainP_prefixes (pcfgs (F := F)) 0 (defs₀ (F := F)) Variants.none m main (Table.hostOps F) hostOps_sub hostOps_fresh (fun c => main_chain c))
    (fun _ _ => rfl) (fun c k => by rw [Subsingleton.elim k 0]; exact htab c) (phi_in a (atRegion m)) (phi_out a (atRegion m)) _ (fun _ h => h)

end Cert.KernelIdeal.Run
-- ==== Proof.Words.lean ====
/-
  The words of the launch's scalar table, read as numbers: each vector that the host computes from the group sizes holds
  the words of the plan's numbers (`Plan`).
-/
module

public import proofs.«01_k».proof.Proof.Table
public import Idealize.ShloMosaic.Lib.Pointwise.Reduce
public import Idealize.ShloMosaic.Lib.PlanTiles.Rows

@[expose] public section

noncomputable section

namespace Cert.KernelIdeal.Table

open Idealize.ShloMosaic hiding ix1 ix2 ix0
open Idealize.ShloMosaic.ValueIdx Idealize.ShloMosaic.WordCmp Cert.KernelIdeal
open Cert.KernelIdeal.Gen
open Idealize.ShloMosaic.Routing (shape0 shape1 shape2 bc0 bcRows bcCols slice1 cumsum1 reduce_count addi_ap subi_ap muli_ap iota1_ap
  ofNat32_sub pyDiv pyDiv_ap setWidth_ofBool cast21)

theorem sum_range_list (f : ℕ → ℕ) (k : ℕ) : ((List.range k).map f).sum = ∑ e ∈ Finset.range k, f e := by
  induction k with
  | zero => rfl
  | succ k ih => rw [List.range_succ, List.map_append, List.sum_append, ih, Finset.sum_range_succ]; simp

theorem off1 : ∀ b : Fin 1, b = 0 := fun b => Subsingleton.elim _ _

variable {n : ℕ → ℕ} {gs : IVec S8 32}

theorem bounds_first (i : Fin 10) (h : i.val = 0) : bounds gs (ix1 i) = BitVec.ofNat 32 (Plan.bnd n i) := by
  refine (concatenate_apply_piece (0 : Fin S10.rank) _ _ (ix1 i) 0 (by simp) S1 (c1 0#32) rfl rfl 0 rfl (ix1 (0 : Fin 1)) ?_ ?_).trans ?_
  · intro b hb; exact absurd (off1 b) hb
  · exact h.symm
  · rw [h, Plan.bnd_zero]; rfl

theorem bounds_last (i : Fin 10) (h : i.val = 9) : bounds gs (ix1 i) = BitVec.ofNat 32 (Plan.bnd n i) := by
  refine (concatenate_apply_piece (0 : Fin S10.rank) _ _ (ix1 i) 2 (by simp) S1 (addi (c1 0#32) (c1 8192#32)) rfl rfl 9 rfl (ix1 (0 : Fin 1)) ?_ ?_).trans ?_
  · intro b hb; exact absurd (off1 b) hb
  · exact h.symm
  · rw [h, Plan.bnd_nine]; rfl

variable (hn : ∀ e, e < 8 → n e ≤ 8192) (hgs : ∀ e : Fin 8, gs (ix1 e) = BitVec.ofNat 32 (n e))
include hn hgs

theorem bounds_mid (i : Fin 10) (h0 : 0 < i.val) (h9 : i.val < 9) : bounds gs (ix1 i) = BitVec.ofNat 32 (Plan.bnd n i) := by
  have hk : i.val - 1 < 8 := by omega
  have hle : ∑ e ∈ Finset.range i.val, n e ≤ 8 * 8192 := by
    refine (Finset.sum_le_card_nsmul _ _ 8192 fun e he => hn e ?_).trans ?_
    · have := Finset.mem_range.1 he; omega
    · simp; omega
  refine (concatenate_apply_piece (0 : Fin S10.rank) _ _ (ix1 i) 1 (by simp) S8 _ rfl rfl 1 rfl (ix1 (⟨i.val - 1, hk⟩ : Fin 8)) ?_ ?_).trans ?_
  · intro b hb; exact absurd (off1 b) hb
  · show 1 + (i.val - 1) = i.val; omega
  · show IntOp.minsi (Host.reduceWindow IntOp.addi ![8] ![1] ![7] ![0] gs _ _ _ (ix1 (⟨i.val - 1, hk⟩ : Fin 8))) (BitVec.ofNat 32 8192) = _
    rw [cumsum1 (N := 8) (Nm1 := 7) rfl gs n hgs _ rfl _ _ ⟨i.val - 1, hk⟩, sum_range_list]
    simp only [Nat.sub_add_cancel h0]
    rw [Idealize.ShloMosaic.PlanTiles.minsi_word (by omega) (by omega), Nat.min_comm]
    unfold Plan.bnd
    rw [if_pos (by omega)]

/-- The ten bounds are the plan's. -/
theorem bounds_word (i : Fin 10) : bounds gs (ix1 i) = BitVec.ofNat 32 (Plan.bnd n i) := by
  by_cases h0 : i.val = 0
  · exact bounds_first i h0
  by_cases h9 : i.val = 9
  · exact bounds_last i h9
  exact bounds_mid hn hgs i (by omega) (by omega)

theorem starts_word (g : Fin 9) : starts gs (ix1 g) = BitVec.ofNat 32 (Plan.bnd n g) := by
  refine (slice1 0 (bounds gs) _ g (by omega)).trans ?_
  rw [bounds_word hn hgs]
  simp

theorem stops_word (g : Fin 9) : stops gs (ix1 g) = BitVec.ofNat 32 (Plan.bnd n (g + 1)) := by
  refine (slice1 1 (bounds gs) _ g (by omega)).trans ?_
  rw [bounds_word hn hgs]
  simp [Nat.add_comm]

theorem firstTile_word (g : Fin 9) : firstTile gs (ix1 g) = BitVec.ofNat 32 (Plan.bnd n g / 256) :=
  pyDiv_ap bcast_S_S9 _ _ _ (starts_word hn hgs g) rfl (by have := Plan.bnd_le n g; omega) (by omega) (by omega)

theorem tiles_word (g : Fin 9) : tiles gs (ix1 g) = BitVec.ofNat 32 (Plan.nt n g) := by
  have b0 := Plan.bnd_le n g
  have b1 := Plan.bnd_le n (g + 1)
  unfold tiles
  rw [select_at, cmpi_at, stops_word hn hgs, starts_word hn hgs, cmpi_sgt_ofNat (w := 32) (by omega) (by omega), select_decide]
  unfold Plan.nt
  by_cases h : Plan.bnd n g < Plan.bnd n (g + 1)
  · rw [if_pos h, if_pos h, addi_ap, subi_ap, firstTile_word hn hgs,
      pyDiv_ap bcast_S_S9 _ _ _ (a := Plan.bnd n (g + 1) - 1) (b := 256) ?_ rfl (by omega) (by omega) (by omega), ofNat32_sub (by omega)]
    · show _ + BitVec.ofNat 32 1 = _
      rw [BitVec.ofNat_add_ofNat]
    · rw [subi_ap, stops_word hn hgs]
      exact ofNat32_sub (by omega)
  · rw [if_neg h, if_neg h]; rfl

theorem sums_word (g : Fin 9) : sums gs (ix1 g) = BitVec.ofNat 32 (Plan.cum n (g + 1)) := by
  refine (cumsum1 (N := 9) (Nm1 := 8) rfl (tiles gs) (Plan.nt n) (tiles_word hn hgs) _ rfl _ _ g).trans ?_
  rw [sum_range_list]; rfl

theorem visits_word : visits gs ValueIdx.ix0 = BitVec.ofNat 32 (Plan.total n) := by
  unfold visits
  refine (shapeCast_apply _ shapeCasts_S1_S_ ValueIdx.ix0 (ix1 (0 : Fin 1)) rfl).trans ?_
  refine (slice1 8 (sums gs) _ (0 : Fin 1) (by simp)).trans ?_
  exact sums_word hn hgs 8

theorem visit_word (v : Fin 40) : visit gs (ix1 v) = BitVec.ofNat 32 (Plan.vis n v) := by
  have h1 := Plan.total_le n
  have h2 := Plan.total_ge n
  unfold visit
  show IntOp.minsi (BitVec.ofNat 32 v.val) (broadcastInDim S40 ![] bcast_S_S40 (subi (visits gs) (constantI S_ 32 1#32)) (ix1 v)) = _
  rw [bc0, subi_ap, visits_word hn hgs]
  show IntOp.minsi _ (_ - BitVec.ofNat 32 1) = _
  rw [ofNat32_sub (by omega), Idealize.ShloMosaic.PlanTiles.minsi_word (by omega) (by omega), Nat.min_comm]
  rfl

theorem group_word (v : Fin 40) : group gs (ix1 v) = BitVec.ofNat 32 (Plan.grp n v) := by
  have h1 := Plan.total_le n
  refine reduce_count (n := 40) (m := 9) (by omega) _ _ _ _ v (fun g => Plan.cum n (g + 1) ≤ Plan.vis n v) fun q => ?_
  have hv := Plan.vis_lt n v
  have hc : Plan.cum n (q + 1) ≤ Plan.total n := Plan.cum_mono n (by omega)
  rw [cmpi_at]
  unfold along40 along9
  rw [show broadcastInDim S40x9 ![0, 1] _ (broadcastInDim S40x1 ![0] _ (visit gs)) (ix2 v q) = visit gs (ix1 v) from bcRows _ _ _ v q,
    show broadcastInDim S40x9 ![0, 1] _ (broadcastInDim S1x9 ![1] _ (sums gs)) (ix2 v q) = sums gs (ix1 q) from bcCols _ _ _ v q,
    visit_word hn hgs, sums_word hn hgs]
  exact cmpi_sge_ofNat_eq_one_iff (by omega) (by omega)

omit hn hgs in
/-- A sum of words of which only the one at `g` is not zero. -/
theorem fold_one {m : ℕ} (g : Fin m) (f : Fin m → BitVec 32) (hf : ∀ k, k ≠ g → f k = 0#32) :
    (Finset.univ : Finset (Fin m)).fold IntOp.addi 0#32 f = f g := by
  classical
  have key : ∀ s : Finset (Fin m), s.fold IntOp.addi 0#32 f = if g ∈ s then f g else 0#32 := fun s => by
    induction s using Finset.induction_on with
    | empty => simp
    | insert a s ha ih =>
      rw [Finset.fold_insert ha, ih]
      by_cases e : a = g
      · subst e
        simp only [ha, Finset.mem_insert, true_or, if_true, if_false]
        exact BitVec.add_zero _
      · rw [hf a e]
        have : g ∈ insert a s ↔ g ∈ s := by
          rw [Finset.mem_insert]; exact ⟨fun h => h.resolve_left fun h' => e h'.symm, Or.inr⟩
        simp only [this]
        exact BitVec.zero_add _
  rw [key, if_pos (Finset.mem_univ _)]

theorem pick_word (x : IVec S9 32) (v : Fin 40) : pick gs x (ix1 v) = x (ix1 (⟨Plan.grp n v, Plan.grp_lt n v⟩ : Fin 9)) := by
  unfold pick
  rw [Host.reduce_eq_fold]
  rw [show ∀ f : S40x9.Idx → BitVec 32, (Finset.univ.filter (fun i => reducesTo_S40x9_S40_d1.drop i = ix1 v)).fold IntOp.addi
        (constantI S_ 32 0#32 (Shape.Idx.first h_S_)) f = (Finset.univ : Finset (Fin 9)).fold IntOp.addi 0#32 (fun k => f (ix2 v k))
      from fun f => Shape.ReducesTo.fold_fiber_r2_a1 reducesTo_S40x9_S40_d1 (ix1 v) IntOp.addi _ f]
  have term : ∀ k : Fin 9, muli (extui 32 (cmpi .eq (along40 (group gs)) (along9 (iotaInDim S9 32 0))) natLt_1_32) (along9 x) (ix2 v k)
      = BitVec.ofNat 32 (if Plan.grp n v = k.val then 1 else 0) * x (ix1 k) := fun k => by
    have hg := Plan.grp_lt n v
    rw [muli_ap, extui_at, cmpi_at]
    unfold along40 along9
    rw [show broadcastInDim S40x9 ![0, 1] _ (broadcastInDim S40x1 ![0] _ (group gs)) (ix2 v k) = group gs (ix1 v) from bcRows _ _ _ v k,
      show broadcastInDim S40x9 ![0, 1] _ (broadcastInDim S1x9 ![1] _ (iotaInDim S9 32 0)) (ix2 v k) = iotaInDim S9 32 0 (ix1 k) from bcCols _ _ _ v k,
      show broadcastInDim S40x9 ![0, 1] _ (broadcastInDim S1x9 ![1] _ x) (ix2 v k) = x (ix1 k) from bcCols _ _ _ v k,
      group_word hn hgs, show iotaInDim S9 32 0 (ix1 k) = BitVec.ofNat 32 k.val from rfl, cmpi_eq_ofNat (w := 32) (by omega) (by omega), setWidth_ofBool]
  rw [fold_one (⟨Plan.grp n v, Plan.grp_lt n v⟩ : Fin 9) _ fun k hk => ?_, term, if_pos rfl]
  · exact BitVec.one_mul _
  · rw [term, if_neg fun h => hk (Fin.ext h.symm)]
    exact BitVec.zero_mul

theorem tileRow_word (v : Fin 40) : tileRow gs (ix1 v) = BitVec.ofNat 32 (Plan.tile n v) := by
  unfold tileRow
  rw [subi_ap, addi_ap, pick_word hn hgs, pick_word hn hgs, firstTile_word hn hgs, subi_ap, sums_word hn hgs, tiles_word hn hgs, visit_word hn hgs,
    BitVec.ofNat_add_ofNat]
  have h := Plan.grp_spec n v
  have hs := Plan.cum_succ n (Plan.grp n v)
  simp only
  rw [ofNat32_sub (by omega), ofNat32_sub (by omega)]
  congr 1
  unfold Plan.tile
  omega

/-- The bound of the visited group that the table holds: its first row or the row after its last; zero for the rest. -/
theorem boundRow_word (x : IVec S9 32) (f : ℕ → ℕ) (hx : ∀ g : Fin 9, x (ix1 g) = BitVec.ofNat 32 (f g)) (v : Fin 40) :
    boundRow gs x (ix1 v) = BitVec.ofNat 32 (if Plan.grp n v < 8 then f (Plan.grp n v) else 0) := by
  unfold boundRow
  have hg := Plan.grp_lt n v
  rw [select_at, cmpi_at, group_word hn hgs, pick_word hn hgs, hx]
  rw [show c40 8#32 (ix1 v) = BitVec.ofNat 32 8 from rfl, cmpi_slt_ofNat (w := 32) (by omega) (by omega), select_decide]
  split <;> rfl

theorem firstRow_word (v : Fin 40) :
    firstRow gs (ix1 v) = BitVec.ofNat 32 (if v.val = 0 ∨ Plan.tile n v ≠ Plan.tile n (v - 1) then 1 else 0) := by
  by_cases h0 : v.val = 0
  · rw [if_pos (Or.inl h0)]
    refine (concatenate_apply_piece (0 : Fin S40.rank) _ _ (ix1 v) 0 (by simp) S1 (addi (c1 0#32) (c1 1#32)) rfl rfl 0 rfl (ix1 (0 : Fin 1)) ?_ ?_).trans ?_
    · intro b hb; exact absurd (off1 b) hb
    · exact h0.symm
    · rfl
  · have hk : v.val - 1 < 39 := by omega
    have t0 := Plan.tile_lt n v
    have t1 := Plan.tile_lt n (v - 1)
    refine (concatenate_apply_piece (0 : Fin S40.rank) _ _ (ix1 v) 1 (by simp) S39 _ rfl rfl 1 rfl (ix1 (⟨v.val - 1, hk⟩ : Fin 39)) ?_ ?_).trans ?_
    · intro b hb; exact absurd (off1 b) hb
    · show 1 + (v.val - 1) = v.val; omega
    · rw [extui_at, cmpi_at,
        show extractStridedSlice S39 ![1] (tileRow gs) _ (ix1 (⟨v.val - 1, hk⟩ : Fin 39)) = _ from slice1 1 (tileRow gs) slices_S40_S39_1 ⟨v.val - 1, hk⟩ (by simp; omega),
        show extractStridedSlice S39 ![0] (tileRow gs) _ (ix1 (⟨v.val - 1, hk⟩ : Fin 39)) = _ from slice1 0 (tileRow gs) slices_S40_S39_0 ⟨v.val - 1, hk⟩ (by simp; omega),
        tileRow_word hn hgs, tileRow_word hn hgs]
      simp only [show 1 + (v.val - 1) = v.val by omega, Nat.zero_add]
      rw [cmpi_ne_ofNat (w := 32) (by omega) (by omega), setWidth_ofBool]
      simp only [h0, false_or]

theorem validRow_word (v : Fin 40) : validRow gs (ix1 v) = BitVec.ofNat 32 (if v.val < Plan.total n then 1 else 0) := by
  have h1 := Plan.total_le n
  unfold validRow
  rw [extui_at, cmpi_at, bc0, visits_word hn hgs, show iotaInDim S40 32 0 (ix1 v) = BitVec.ofNat 32 v.val from rfl,
    cmpi_slt_ofNat (w := 32) (by omega) (by omega), setWidth_ofBool]

theorem expertRow_word (v : Fin 40) : expertRow gs (ix1 v) = BitVec.ofNat 32 (Plan.expert n v) := by
  have hg := Plan.grp_lt n v
  unfold expertRow
  show IntOp.minsi (group gs (ix1 v)) (BitVec.ofNat 32 7) = _
  rw [group_word hn hgs, Idealize.ShloMosaic.PlanTiles.minsi_word (by omega) (by omega), Nat.min_comm]
  rfl

omit hn hgs in
/-- Row `k` of six rows laid over each other. -/
theorem cat6_row (x : Fin 6 → IVec S40 32) (h) (k : Fin 6) (v : Fin 40) :
    concatenate S6x40 0 [⟨S1x40, row (x 0)⟩, ⟨S1x40, row (x 1)⟩, ⟨S1x40, row (x 2)⟩, ⟨S1x40, row (x 3)⟩, ⟨S1x40, row (x 4)⟩, ⟨S1x40, row (x 5)⟩] h
      (ix2 k v) = x k (ix1 v) := by
  have hrow : ∀ y : IVec S40 32, row y (ix2 (0 : Fin 1) v) = y (ix1 v) := fun y =>
    broadcastInDim_apply _ bcast_S40_S1x40_1 y _ (ix1 v) fun a => by
      match a with
      | ⟨0, _⟩ => rfl
  have hoff : ∀ (k : Fin 6) (b : Fin S1x40.rank), b.cast (rfl : S1x40.rank = S6x40.rank) ≠ (0 : Fin S6x40.rank) →
      ((ix2 (0 : Fin 1) v : S1x40.Idx) b).val = ((ix2 k v : S6x40.Idx) (b.cast rfl)).val := by
    intro k b hb
    match b, hb with
    | ⟨0, _⟩, hb => exact absurd rfl hb
    | ⟨1, _⟩, _ => rfl
  match k with
  | 0 => exact (concatenate_apply_piece (0 : Fin S6x40.rank) _ h _ 0 (by simp) S1x40 (row (x 0)) rfl rfl 0 rfl (ix2 (0 : Fin 1) v) (hoff 0) rfl).trans (hrow _)
  | 1 => exact (concatenate_apply_piece (0 : Fin S6x40.rank) _ h _ 1 (by simp) S1x40 (row (x 1)) rfl rfl 1 rfl (ix2 (0 : Fin 1) v) (hoff 1) rfl).trans (hrow _)
  | 2 => exact (concatenate_apply_piece (0 : Fin S6x40.rank) _ h _ 2 (by simp) S1x40 (row (x 2)) rfl rfl 2 rfl (ix2 (0 : Fin 1) v) (hoff 2) rfl).trans (hrow _)
  | 3 => exact (concatenate_apply_piece (0 : Fin S6x40.rank) _ h _ 3 (by simp) S1x40 (row (x 3)) rfl rfl 3 rfl (ix2 (0 : Fin 1) v) (hoff 3) rfl).trans (hrow _)
  | 4 => exact (concatenate_apply_piece (0 : Fin S6x40.rank) _ h _ 4 (by simp) S1x40 (row (x 4)) rfl rfl 4 rfl (ix2 (0 : Fin 1) v) (hoff 4) rfl).trans (hrow _)
  | 5 => exact (concatenate_apply_piece (0 : Fin S6x40.rank) _ h _ 5 (by simp) S1x40 (row (x 5)) rfl rfl 5 rfl (ix2 (0 : Fin 1) v) (hoff 5) rfl).trans (hrow _)

/-- The numbers in the table, row by row. -/
def entry (n : ℕ → ℕ) (v : ℕ) : Fin 6 → ℕ
  | 0 => Plan.tile n v
  | 1 => Plan.expert n v
  | 2 => if Plan.grp n v < 8 then Plan.bnd n (Plan.grp n v) else 0
  | 3 => if Plan.grp n v < 8 then Plan.bnd n (Plan.grp n v + 1) else 0
  | 4 => if v = 0 ∨ Plan.tile n v ≠ Plan.tile n (v - 1) then 1 else 0
  | 5 => if v < Plan.total n then 1 else 0

/-- The rows of the table. -/
def rows (gs : IVec S8 32) : Fin 6 → IVec S40 32
  | 0 => tileRow gs
  | 1 => expertRow gs
  | 2 => boundRow gs (starts gs)
  | 3 => boundRow gs (stops gs)
  | 4 => firstRow gs
  | 5 => validRow gs

/-- The table holds the words of the plan's numbers. -/
theorem table_word (k : Fin 6) (v : Fin 40) : table gs (ix2 k v) = BitVec.ofNat 32 (entry n v k) := by
  refine (cat6_row (rows gs) _ k v).trans ?_
  match k with
  | 0 => exact tileRow_word hn hgs v
  | 1 => exact expertRow_word hn hgs v
  | 2 => exact boundRow_word hn hgs _ _ (starts_word hn hgs) v
  | 3 => exact boundRow_word hn hgs _ (fun g => Plan.bnd n (g + 1)) (stops_word hn hgs) v
  | 4 => exact firstRow_word hn hgs v
  | 5 => exact validRow_word hn hgs v

end Cert.KernelIdeal.Table
-- ==== Proof.Adm.lean ====
/-
  The table that the host computes from group sizes in range keeps every block the kernel asks for inside its array (`ok`): a
  visit's block of rows is one of the 32, its expert one of the eight. What the precondition says of the group sizes
  (`sizes_of_pre`), what the host operations leave in the arrays (`at_…`), and the kernel's frame.
-/
module

public import proofs.«01_k».proof.Proof.Run
public import proofs.«01_k».proof.Proof.Words
public import proofs.«01_k».proof.Proof.Gen.Pre_sizes_in_range
public import Idealize.ShloMosaic.Lib.ReduceAll
public import Idealize.ShloMosaic.Lib.StableHlo.RunRead

@[expose] public section

set_option maxRecDepth 16384

noncomputable section

namespace Cert.KernelIdeal.Adm

open Cert.KernelIdeal Cert.KernelIdeal.Gen Cert.KernelIdeal.Run Cert.KernelIdeal.Table
open Idealize.ShloMosaic hiding ix1 ix2 ix0
open Idealize.ShloMosaic.TcCoe Idealize.SL Idealize.SL.Sem Idealize.ShloMosaic.ValueIdx
open Idealize.ShloMosaic.Pipeline (RDat)

variable {F : FTy → Type} [FloatOps F]

/-! ## The precondition -/

/-- Group sizes in range, as the precondition computes it: each size is between 0 and 8192. -/
theorem sizes_of_pre {x0 x2 x3} {gs : IVec S8 32} (h : Cert.Pre_sizes_in_range.fn (F := F) x0 gs x2 x3 = fun _ => 1#1) (e : Fin 8) :
    (gs (ix1 e)).toNat ≤ 8192 := by
  have h0 := congrFun h (Shape.Idx.first Cert.Pre_sizes_in_range.Facts.h_S_)
  unfold Cert.Pre_sizes_in_range.fn at h0
  haveI : Subsingleton Cert.Pre_sizes_in_range.S_.Idx := ⟨fun a b => funext fun i => i.elim0⟩
  have h1 := Host.reduce_andi_all _ _ _ _ _ h0 (ix1 e)
  have h2 := IntOp.andi_eq_one.1 h1
  have h3 := IntOp.cmpi_sge.1 h2.1
  have h4 := IntOp.cmpi_sle.1 h2.2
  have h3' : (0 : ℤ) ≤ (gs (ix1 e)).toInt := h3
  have h4' : (gs (ix1 e)).toInt ≤ 8192 := h4
  rw [BitVec.toInt_eq_toNat_cond] at h3' h4'
  split at h4' <;> omega

/-- The group sizes as numbers. -/
def num (gs : IVec S8 32) (e : ℕ) : ℕ := if he : e < 8 then (gs (ix1 ⟨e, he⟩)).toNat else 0

theorem num_word (gs : IVec S8 32) (e : Fin 8) : gs (ix1 e) = BitVec.ofNat 32 (num gs e) := by
  unfold num; rw [dif_pos e.isLt]; simp

/-! ## The table -/

/-- The place a word of the table is loaded from. -/
theorem emb_word (r : Fin 6) (v : Fin 40) (off : Fin 2 → ℕ) (inb) (hoff : off = ![r.val, v.val]) (z : S1x1.Idx) :
    (Rect.unit (s := S6x40) off S1x1.size inb).emb z = ix2 r v := by
  subst hoff
  funext b
  apply Fin.ext
  rw [Rect.emb_apply]
  match b with
  | 0 => show r.val + 1 * (z 0).val = r.val; have : (z 0).val < 1 := (z 0).isLt; omega
  | 1 => show v.val + 1 * (z 1).val = v.val; have : (z 1).val < 1 := (z 1).isLt; omega

/-- The visit of a grid point. -/
abbrev vis (i : grid0.Coords) : Fin 40 := ⟨(i 0).val, (i 0).isLt⟩

theorem idx_toNat (v : ℕ) (hv : v < 40) : (Scalar.indexCast (BitVec.ofNat 32 v) : Index).toNat = v := by
  unfold Scalar.indexCast; rw [BitVec.toNat_ofNat]; omega

section Tab

variable {n : ℕ → ℕ} {gs : IVec S8 32} (hn : ∀ e, e < 8 → n e ≤ 8192) (hgs : ∀ e : Fin 8, gs (ix1 e) = BitVec.ofNat 32 (n e))

/-- The table, as the pipeline holds it. -/
def pf (gs : IVec S8 32) : pre0.Contents (Elt F) := fun | 0 => table gs | ⟨_ + 1, h⟩ => absurd h (Nat.not_lt.2 (Nat.le_add_left _ _))

include hn hgs

theorem word_toNat (k : Fin 6) (v : Fin 40) : (table gs (ix2 k v)).toNat = entry n v k := by
  rw [table_word hn hgs, BitVec.toNat_ofNat]
  have h1 := Plan.tile_lt (n := n) v.val
  have h2 := Plan.expert_lt (n := n) v.val
  have h3 := Plan.bnd_le (n := n) (Plan.grp n v.val)
  have h4 := Plan.bnd_le (n := n) (Plan.grp n v.val + 1)
  have : entry n v k ≤ 8192 := by
    fin_cases k <;> simp only [entry] <;> (try split) <;> omega
  omega

/-- A word of the table, loaded at a place of row `r` and the visit's column. -/
theorem load_word (r : Fin 6) (i : grid0.Coords) (off : Fin 2 → ℕ) (inb) (hoff : off = ![r.val, (i 0).val]) (z : S1x1.Idx) :
    (table gs ((Rect.unit (s := S6x40) off S1x1.size inb).emb z)).toNat = entry n (i 0).val r := by
  rw [emb_word r (vis i) off inb hoff]; exact word_toNat hn hgs r (vis i)

omit hn hgs in
theorem off1_eq (i : grid0.Coords) : k0_off1 i = ![(0 : Fin 6).val, (i 0).val] := by
  exact congrArg (fun k => ![0, k]) (idx_toNat _ (i 0).isLt)

omit hn hgs in
theorem off2_eq (i : grid0.Coords) : k0_off2 i = ![(1 : Fin 6).val, (i 0).val] := by
  exact congrArg (fun k => ![1, k]) (idx_toNat _ (i 0).isLt)

/-- A visit's block of rows, -/
theorem at_tile (i : grid0.Coords) : cc0_transform_0 k0_off1_inb numel1_S1x1 (pf (F := F) gs) i = ![Plan.tile n (i 0).val, 0] := by
  have := load_word hn hgs 0 i (k0_off1 i) (k0_off1_inb i) (off1_eq i) (Shape.Idx.first (numel1_S1x1.symm ▸ Nat.one_pos))
  exact congrArg (fun k => ![k, 0]) this

/-- its expert's weights, -/
theorem at_expert (i : grid0.Coords) : cc0_transform_1 k0_off2_inb numel1_S1x1 (pf (F := F) gs) i = ![Plan.expert n (i 0).val, 0, 0] := by
  have := load_word hn hgs 1 i (k0_off2 i) (k0_off2_inb i) (off2_eq i) (Shape.Idx.first (numel1_S1x1.symm ▸ Nat.one_pos))
  exact congrArg (fun k => ![k, 0, 0]) this

/-- and their scales, are inside their arrays. -/
theorem ok : ok0 (pf (F := F) gs) := by
  have e2 : ∀ i, cc0_transform_2 k0_off2_inb numel1_S1x1 (pf (F := F) gs) i = ![Plan.expert n (i 0).val, 0, 0] := at_expert hn hgs
  have e3 : ∀ i, cc0_transform_3 k0_off1_inb numel1_S1x1 (pf (F := F) gs) i = ![Plan.tile n (i 0).val, 0] := at_tile hn hgs
  have e4 : ∀ i, cc0_transform_4 k0_off1_inb numel1_S1x1 (pf (F := F) gs) i = ![Plan.tile n (i 0).val, 0] := at_tile hn hgs
  refine ⟨fun i => ?_, fun i => ?_, fun i => ?_, fun i => ?_, fun i => ?_⟩
  · rw [at_tile hn hgs]
    have ht := Plan.tile_lt (n := n) (i 0).val
    refine ⟨fun a => ?_, .inr (.inl (.inr ⟨by decide, rfl, .inl ⟨?_, ?_⟩⟩))⟩
    · match a with
      | 0 => show (Plan.tile n (i 0).val + 1) * 256 ≤ 8192; omega
      | 1 => show (0 + 1) * 1024 ≤ 1024; omega
    · exact (show 2 ∣ Plan.tile n (i 0).val * 256 by omega)
    · exact (show 2 ∣ 256 by decide)
  · rw [at_expert hn hgs]
    have ht := Plan.expert_lt (n := n) (i 0).val
    refine ⟨fun a => ?_, .inr (.inr ⟨by decide, rfl, ?_, rfl⟩)⟩
    · match a with
      | 0 => show (Plan.expert n (i 0).val + 1) * 1 ≤ 8; omega
      | 1 => show (0 + 1) * 1024 ≤ 1024; omega
      | 2 => show (0 + 1) * 5632 ≤ 5632; omega
    · exact (show 0 * 1024 = 0 by omega)
  · rw [e2]
    have ht := Plan.expert_lt (n := n) (i 0).val
    refine ⟨fun a => ?_, .inl rfl⟩
    match a with
      | 0 => show (Plan.expert n (i 0).val + 1) * 1 ≤ 8; omega
      | 1 => show (0 + 1) * 1 ≤ 1; omega
      | 2 => show (0 + 1) * 5632 ≤ 5632; omega
  · rw [e3]
    have ht := Plan.tile_lt (n := n) (i 0).val
    refine ⟨fun a => ?_, .inr (.inl (.inr ⟨by decide, rfl, .inl ⟨?_, ?_⟩⟩))⟩
    · match a with
      | 0 => show (Plan.tile n (i 0).val + 1) * 256 ≤ 8192; omega
      | 1 => show (0 + 1) * 2816 ≤ 2816; omega
    · exact (show 4 ∣ Plan.tile n (i 0).val * 256 by omega)
    · exact (show 4 ∣ 256 by decide)
  · rw [e4]
    have ht := Plan.tile_lt (n := n) (i 0).val
    refine ⟨fun a => ?_, .inl rfl⟩
    match a with
      | 0 => show (Plan.tile n (i 0).val + 1) * 256 ≤ 8192; omega
      | 1 => show (0 + 1) * 1 ≤ 1; omega

end Tab

/-- The table of the sizes `gs`, admissible when they are in range. -/
def adm (gs : IVec S8 32) (h : ∀ e : Fin 8, (gs (ix1 e)).toNat ≤ 8192) : (pcfg0 (F := F)).Adm :=
  ⟨pf gs, ok (n := num gs) (fun e he => by unfold num; rw [dif_pos he]; exact h ⟨e, he⟩) (num_word gs)⟩

/-! ## What the host operations leave in the arrays -/

section Host

variable (m : (ℓ : Loc nD τ sig) → Buf (Elt F) ℓ) (c : Dev nD)

/-- No host operation writes an argument. -/
theorem unwritten (r : Ref sig .tc) (hr : r ∈ [main_arg0, main_arg1, main_arg2, main_arg3]) :
    (hostOps F).Forall fun ops => ops.Forall fun op => (Proc.devRef (τ := τ) .tc r) ∉ op.writes := by
  have key : ∀ w : Ref sig .tc, w ∉ [main_arg0, main_arg1, main_arg2, main_arg3] →
      (Proc.devRef (τ := τ) .tc r) ∉ ({Proc.devRef (τ := τ) .tc w} : Finset (DevRef τ sig)) := fun w hw h =>
    hw (Proc.devRef_injective _ (Finset.mem_singleton.mp h) ▸ hr)
  repeat' first | exact key _ (by decide) | constructor

/-- So the arguments are as they were. -/
theorem at_arg (r : Ref sig .tc) (hr : r ∈ [main_arg0, main_arg1, main_arg2, main_arg3]) :
    atRegion m c r = m ((c : Thread nD τ).loc r) := by
  refine StableHlo.after_of_forall_not_mem _ _ fun op hop => ?_
  obtain ⟨ops, ho, hop⟩ := List.mem_flatten.mp hop
  exact List.forall_iff_forall_mem.mp (List.forall_iff_forall_mem.mp (unwritten r hr) ops ho) op hop

theorem read12 (W : (b : DevRef τ sig) → b.ty.Contents (Elt F)) :
    StableHlo.after (hostOps0_12 : List (HloOp τ sig (Elt F))) W (Proc.devRef .tc main_v81)
      = (shapeCast S8x1x5632 (StableHlo.after (hostOps0_12 : List (HloOp τ sig (Elt F))) W (Proc.devRef .tc main_arg3) : Vec F S8x5632 .f32)
          shapeCasts_S8x5632_S8x1x5632 : Vec F S8x1x5632 .f32) := by
  after_reads_simp
  rfl

/-- The weights' scales reach the kernel with a unit axis added. -/
theorem at_scales : atRegion m c main_v81
    = (shapeCast S8x1x5632 (m ((c : Thread nD τ).loc main_arg3) : Vec F S8x5632 .f32) shapeCasts_S8x5632_S8x1x5632 : Vec F S8x1x5632 .f32) := by
  rw [← at_arg m c main_arg3 (by decide)]
  unfold atRegion
  simp only [hostOps, List.flatten_cons, List.flatten_nil, List.append_nil, StableHlo.after_append]
  exact read12 _

/-- The table the kernel finds. -/
theorem at_table : atRegion m c main_v80 = table (m ((c : Thread nD τ).loc main_arg1)) :=
  read_table _ _ rfl

end Host

/-! ## The frame -/

/-- From group sizes in range the kernel runs, ends with its semaphores at zero, and leaves its arguments as they were; each array
    its windows touch ends as the run's data say. -/
theorem runs (m : (ℓ : Loc nD τ sig) → Buf (Elt F) ℓ) (g : Dev nD → PrngReg)
    (h : ∀ (c : Dev nD) (e : Fin 8), ((m ((c : Thread nD τ).loc main_arg1) : IVec S8 32) (ix1 e)).toNat ≤ 8192) :
    θ_run (defs (F := F)) (onTc (main (F := F))) ⟨m, fun _ => 0, g⟩
      (fun r => RDat.FramePost (cfg0 (adm (F := F) _ (h 0))) (rdat _ (atRegion m)) (atRegion m) r ∧ r.2.sem = fun _ => 0) :=
  run (adm _ (h 0)) m g fun c => by rw [Subsingleton.elim c 0]; exact at_table m 0

/-- Of such a run, the arguments. -/
theorem args_kept (m : (ℓ : Loc nD τ sig) → Buf (Elt F) ℓ) (a : (pcfg0 (F := F)).Adm) (r)
    (h : RDat.FramePost (cfg0 a) (rdat a (atRegion m)) (atRegion m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine ⟨?_, ?_, ?_, ?_⟩
  · exact (h.arr_in c 0 rfl).trans (at_arg m c main_arg0 (by decide))
  · exact ((h c).2 main_arg1 (Pipeline.mem_restRefs_of (win := spec0) _ rfl (by decide))).trans (at_arg m c main_arg1 (by decide))
  · exact (h.arr_in c 1 rfl).trans (at_arg m c main_arg2 (by decide))
  · exact ((h c).2 main_arg3 (Pipeline.mem_restRefs_of (win := spec0) _ rfl (by decide))).trans (at_arg m c main_arg3 (by decide))

/-- The frame. -/
theorem frame (m : (ℓ : Loc nD τ sig) → Buf (Elt F) ℓ) (g : Dev nD → PrngReg)
    (h : ∀ (c : Dev nD) (e : Fin 8), ((m ((c : Thread nD τ).loc main_arg1) : IVec S8 32) (ix1 e)).toNat ≤ 8192) :
    θ_run (defs (F := F)) (onTc (main (F := F))) ⟨m, fun _ => 0, g⟩
      (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) :=
  (θ_run (defs (F := F)) _ _).mono (fun r hr => ⟨args_kept m _ r hr.1, hr.2⟩) (runs m g h)

end Cert.KernelIdeal.Adm
-- ==== Proof.Visit.lean ====
module

public import proofs.«01_k».proof.Proof.Body

@[expose] public section

/-! What a visit with work stores, in one form for all eleven chunks of 256 columns: each chunk is the same function of the rows'
codes and scales, of the masks, of 256 columns of weights and of their scales, and of the scratch buffer's columns. -/

set_option maxRecDepth 16384

noncomputable section

namespace Cert.KernelIdeal.Visit

open Cert.KernelIdeal.Gen Cert.KernelIdeal.Body
open Idealize.ShloMosaic

variable {F : FTy → Type} [FloatOps F]

variable (c : Dev nD) (i : grid0.Coords) (arg1 : Memref sig .tc .smem S6x40 .i32) (harg1 : arg1.IsWhole)
    (arg2 : Memref sig .tc .vmem S256x1024 .bf16) (harg2 : arg2.IsWhole) (arg3 : Memref sig .tc .vmem S1x1024x5632 .fp8e4m3) (harg3 : arg3.IsWhole)
    (arg4 : Memref sig .tc .vmem S1x1x5632 .f32) (harg4 : arg4.IsWhole) (arg5 : Memref sig .tc .vmem S256x2816 .fp8e4m3) (harg5 : arg5.IsWhole)
    (arg6 : Memref sig .tc .vmem S256x1 .f32) (harg6 : arg6.IsWhole) (arg7 : Memref sig .tc .vmem S256x2816 .f32) (harg7 : arg7.IsWhole)
    (x1 : Vec F S6x40 .i32) (x2 : Vec F S256x1024 .bf16) (x3 : Vec F S1x1024x5632 .fp8e4m3) (x4 : Vec F S1x1x5632 .f32) (x7 : Vec F S256x2816 .f32)

theorem inb_w (q : Fin 22) : ∀ a, (![0, 0, 256 * q.val] : Fin 3 → ℕ) a + S1x1024x256.size a ≤ S1x1024x5632.size a := by
  intro a; fin_cases a <;> simp [S1x1024x256, S1x1024x5632]; omega
theorem inb_s (q : Fin 22) : ∀ a, (![0, 0, 256 * q.val] : Fin 3 → ℕ) a + S1x1x256.size a ≤ S1x1x5632.size a := by
  intro a; fin_cases a <;> simp [S1x1x256, S1x1x5632]; omega
theorem inb_h (q : Fin 11) : ∀ a, (![0, 256 * q.val] : Fin 2 → ℕ) a + S256x256.size a ≤ S256x2816.size a := by
  intro a; fin_cases a <;> simp [S256x256, S256x2816]; omega

/-- The table's word at an offset. -/
abbrev word (off : Fin 2 → ℕ) (h : ∀ a, off a + S1x1.size a ≤ S6x40.size a) : BitVec 32 :=
  View.readAt (Elt F) arg1.view (Rect.unit (s := S6x40) off S1x1.size h).toLoadRect (harg1.unread x1) (Shape.Idx.first (numel1_S1x1.ge))

/-- The mask of the visit's own rows. -/
def mine : IVec S256x1 1 :=
  k0_pay8 (F := F) (word arg1 harg1 x1 (k0_off1 i) (k0_off1_inb i)) (word arg1 harg1 x1 (k0_off3 i) (k0_off3_inb i)) (word arg1 harg1 x1 (k0_off4 i) (k0_off4_inb i))
/-- The mask of the rows whose earlier value is kept. -/
def keep : IVec S256x1 1 :=
  k0_pay9 (F := F) (word arg1 harg1 x1 (k0_off1 i) (k0_off1_inb i)) (word arg1 harg1 x1 (k0_off3 i) (k0_off3_inb i)) (word arg1 harg1 x1 (k0_off4 i) (k0_off4_inb i))
    (word arg1 harg1 x1 (k0_off5 i) (k0_off5_inb i))

/-- The rows' block as loaded. -/
def rows : Vec F S256x1024 .bf16 := View.readAt (Elt F) arg2.view (Rect.unit ![0, 0] S256x1024.size inb_S256x1024_S256x1024_0_0).toLoadRect (harg2.unread x2)
/-- 256 columns of weights. -/
def cols (q : Fin 22) : Vec F S1x1024x256 .fp8e4m3 := View.readAt (Elt F) arg3.view (Rect.unit (s := S1x1024x5632) ![0, 0, 256 * q.val] S1x1024x256.size (inb_w q)).toLoadRect (harg3.unread x3)
/-- 256 of the weights' scales. -/
def scls (q : Fin 22) : Vec F S1x1x256 .f32 := View.readAt (Elt F) arg4.view (Rect.unit (s := S1x1x5632) ![0, 0, 256 * q.val] S1x1x256.size (inb_s q)).toLoadRect (harg4.unread x4)
/-- 256 columns of the scratch buffer. -/
def olds (q : Fin 11) : Vec F S256x256 .f32 := View.readAt (Elt F) arg7.view (Rect.unit (s := S256x2816) ![0, 256 * q.val] S256x256.size (inb_h q)).toLoadRect (harg7.unread x7)

/-- The greatest scaled value. -/
abbrev top : F .f32 := FloatOps.ofBits .f32 0x43E00000#32

/-- One chunk of the visit's 256 x 2816 values. -/
def chunk (q : Fin 11) : FVec F S256x256 .f32 :=
  k0_pay36 (k0_pay5 (rows arg2 harg2 x2)) (k0_pay7 top (k0_pay6 (rows arg2 harg2 x2))) (mine (F := F) i arg1 harg1 x1) (keep (F := F) i arg1 harg1 x1)
    (cols arg3 harg3 x3 ⟨q.val, by omega⟩) (cols arg3 harg3 x3 ⟨q.val + 11, by omega⟩)
    (scls arg4 harg4 x4 ⟨q.val, by omega⟩) (scls arg4 harg4 x4 ⟨q.val + 11, by omega⟩) (olds arg7 harg7 x7 q)

/-- A chunk's store. -/
def piece (q : Fin 11) : View.Piece (Elt F) S256x2816 .f32 :=
  ⟨Rect.unit (s := S256x2816) ![0, 256 * q.val] S256x256.size (inb_h q),
    shapeCast S256x256 (chunk i arg1 harg1 arg2 harg2 arg3 harg3 arg4 harg4 arg7 harg7 x1 x2 x3 x4 x7 q) shapeCasts_S256x256_S256x256⟩

/-- The stores of all chunks, the last first. -/
def pieces : List (View.Piece (Elt F) S256x2816 .f32) :=
  List.map (piece i arg1 harg1 arg2 harg2 arg3 harg3 arg4 harg4 arg7 harg7 x1 x2 x3 x4 x7) [10, 9, 8, 7, 6, 5, 4, 3, 2, 1, 0]

/-- The register of greatest absolute values after another chunk. -/
def reg (p : FVec F S256x128 .f32) (h : FVec F S256x256 .f32) : FVec F S256x128 .f32 :=
  maximumf (maximumf p (absf (extractStridedSlice S256x128 ![0, 0] h slices_S256x256_o0_0_S256x128)))
    (absf (extractStridedSlice S256x128 ![0, 128] h slices_S256x256_o0_128_S256x128))

/-- The register after the first `n` chunks. -/
def regs (h : Fin 11 → FVec F S256x256 .f32) : ℕ → FVec F S256x128 .f32
  | 0 => k0_pay10
  | n + 1 => reg (regs h n) (h (Fin.ofNat 11 n))

/-- The count that gives the exponent of each row's scale, from the register. -/
def counts (v555 : FVec F S256x128 .f32) : IVec S256x1 32 :=
  have v556 : FVec F S256 .f32 := multiReduction .maximumf [1] S256 v555 0xFF800000#32 reduces_S256x128_S256 (.inl rfl) rfl
  have v557 : FVec F S256x1 .f32 := shapeCast S256x1 v556 shapeCasts_S256_S256x1
  have cst_238 : F .f32 := Scalar.ofBits .f32 0x3B124925#32
  have v558 : FVec F S256x1 .f32 := broadcast S256x1 cst_238
  have v559 : FVec F S256x1 .f32 := mulf v557 v558
  have v560 : IVec S1x256 32 := iota .tc S1x256 32 [1] iota_S1x256_d1_w32
  have v561 : IVec S1x256 32 := broadcast S1x256 23#32
  have v562 : IVec S1x256 32 := shli v560 v561
  have v563 : FVec F S1x256 .f32 := bitcastToFloat .f32 v562
  have v564 : FVec F S256x256 .f32 := broadcastTo S256x256 v559 broadcasts_S256x1_S256x256
  have v565 : FVec F S256x256 .f32 := broadcastTo S256x256 v563 broadcasts_S1x256_S256x256
  have v566 : IVec S256x256 1 := cmpf .olt v564 v565
  have v567 : IVec S256x256 32 := broadcast S256x256 0#32
  have v568 : IVec S256x256 32 := broadcast S256x256 1#32
  have v569 : IVec S256x256 32 := select v566 v567 v568
  have v570 : IVec S256 32 := multiReductionI .add [1] S256 v569 0#32 reduces_S256x256_S256 rfl
  shapeCast S256x1 v570 shapeCasts_S256_S256x1

/-- The visit's count. -/
def cnt : IVec S256x1 32 :=
  counts (regs (chunk i arg1 harg1 arg2 harg2 arg3 harg3 arg4 harg4 arg7 harg7 x1 x2 x3 x4 x7) 11)

/-- The store of the codes of one chunk. -/
def codePiece (q : Fin 11) : View.Piece (Elt F) S256x2816 .fp8e4m3 :=
  ⟨Rect.unit (s := S256x2816) ![0, 256 * q.val] S256x256.size (inb_h q),
    k0_pay67 (cnt i arg1 harg1 arg2 harg2 arg3 harg3 arg4 harg4 arg7 harg7 x1 x2 x3 x4 x7)
      (arg7.view.readCov (pieces i arg1 harg1 arg2 harg2 arg3 harg3 arg4 harg4 arg7 harg7 x1 x2 x3 x4 x7)
        (Rect.unit (s := S256x2816) ![0, 256 * q.val] S256x256.size (inb_h q)).toLoadRect)⟩

set_option maxHeartbeats 4000000 in
/-- What the run stores in the scratch buffer are the chunks. -/
theorem run_scratch :
    (kernelRun c i arg1 harg1 arg2 harg2 arg3 harg3 arg4 harg4 arg5 harg5 arg6 harg6 arg7 harg7 x1 x2 x3 x4 x7).2.2.1
      = pieces i arg1 harg1 arg2 harg2 arg3 harg3 arg4 harg4 arg7 harg7 x1 x2 x3 x4 x7 := by
  sl_kernel_rfl

set_option maxHeartbeats 4000000 in
/-- What the run stores in the scales' block. -/
theorem run_scale :
    (kernelRun c i arg1 harg1 arg2 harg2 arg3 harg3 arg4 harg4 arg5 harg5 arg6 harg6 arg7 harg7 x1 x2 x3 x4 x7).2.1
      = [⟨Rect.unit (s := S256x1) ![0, 0] S256x1.size inb_S256x1_S256x1_0_0, k0_pay65 (cnt i arg1 harg1 arg2 harg2 arg3 harg3 arg4 harg4 arg7 harg7 x1 x2 x3 x4 x7)⟩] := by
  sl_kernel_rfl

set_option maxHeartbeats 4000000 in
/-- What the run stores in the codes' block. -/
theorem run_codes :
    (kernelRun c i arg1 harg1 arg2 harg2 arg3 harg3 arg4 harg4 arg5 harg5 arg6 harg6 arg7 harg7 x1 x2 x3 x4 x7).1
      = List.map (codePiece i arg1 harg1 arg2 harg2 arg3 harg3 arg4 harg4 arg7 harg7 x1 x2 x3 x4 x7) [10, 9, 8, 7, 6, 5, 4, 3, 2, 1, 0] := by
  sl_kernel_rfl

end Cert.KernelIdeal.Visit
-- ==== Proof.Scale.lean ====
module

public import Idealize.ShloMosaic.Lib.Pointwise
public import Idealize.ShloMosaic.Lib.IdealHost
public import Idealize.ShloMosaic.Lib.IndicatorCount

@[expose] public section

/-! The power-of-two scale of a row, as the reference spells it and as the kernel does.

The kernel counts the f32 patterns `k <<< 23`, `k < 256`, that are not above `s`; the reference takes the least power of two
above `s`. Both name the same scale and the same inverse. -/

noncomputable section

namespace Cert.Scale

open Idealize.ShloMosaic

/-- The value of the f32 whose exponent field is `k` and whose other bits are zero. -/
@[irreducible] def pw (k : ℕ) : EReal := Ideal.ofBits .f32 (BitVec.ofNat 32 (8388608 * k))

/-- The exponent and fraction of the pattern `k <<< 23`. -/
theorem pw_eq (k : ℕ) (h : k < 256) :
    pw k = if k = 255 then ⊤ else if k = 0 then 0 else (((2 : ℝ) ^ ((k : ℤ) - 127) : ℝ) : EReal) := by
  have hneg : (BitVec.ofNat 32 (8388608 * k)).extractLsb' 31 1 = 0#1 := by
    apply BitVec.eq_of_toNat_eq
    simp only [BitVec.extractLsb'_toNat, BitVec.toNat_ofNat, Nat.shiftRight_eq_div_pow]
    omega
  have hex : ((BitVec.ofNat 32 (8388608 * k)).extractLsb' 23 8).toNat = k := by
    simp only [BitVec.extractLsb'_toNat, BitVec.toNat_ofNat, Nat.shiftRight_eq_div_pow]
    omega
  have hfr : ((BitVec.ofNat 32 (8388608 * k)).extractLsb' 0 23).toNat = 0 := by
    simp only [BitVec.extractLsb'_toNat, BitVec.toNat_ofNat, Nat.shiftRight_eq_div_pow]
    omega
  unfold pw Ideal.ofBits Ideal.ieee
  simp only [hneg, hex, hfr, show (8 : ℕ) + 23 = 31 from rfl]
  by_cases h255 : k = 255
  · simp [h255]
  by_cases h0 : k = 0
  · simp [h0]
  rw [if_neg h255, if_neg h0, if_neg (by omega), if_neg h0]
  congr 1
  have : ((k : ℤ) - (2 ^ (8 - 1) - 1) - (23 : ℕ)) = ((k : ℤ) - 127) + (-23) := by push_cast; ring
  rw [this, zpow_add₀ (by norm_num)]
  norm_num
  ring

/-- Pattern 0 is zero. -/
theorem pw_zero : pw 0 = 0 := by rw [pw_eq 0 (by norm_num)]; simp
/-- Pattern 255 is infinity. -/
theorem pw_top : pw 255 = ⊤ := by rw [pw_eq 255 (by norm_num)]; simp
/-- The patterns between are the powers of two. -/
theorem pw_real {k : ℕ} (h0 : 0 < k) (h : k < 255) : pw k = (((2 : ℝ) ^ ((k : ℤ) - 127) : ℝ) : EReal) := by
  rw [pw_eq k (by omega), if_neg (by omega), if_neg (by omega)]

/-- The patterns' values grow with the exponent field. -/
theorem pw_lt {i k : ℕ} (hik : i < k) (hk : k < 256) : pw i < pw k := by
  rcases Nat.eq_zero_or_pos i with rfl | hi
  · rw [pw_zero]
    by_cases h : k = 255
    · subst h; rw [pw_top]; exact EReal.zero_lt_top
    · rw [pw_real hik (by omega)]; exact_mod_cast (by positivity : (0 : ℝ) < 2 ^ ((k : ℤ) - 127))
  · by_cases h : k = 255
    · subst h; rw [pw_top, pw_real hi (by omega)]; exact EReal.coe_lt_top _
    · rw [pw_real hi (by omega), pw_real (by omega) (by omega)]
      exact EReal.coe_lt_coe_iff.2 (zpow_lt_zpow_right₀ (by norm_num : (1 : ℝ) < 2) (by omega))

/-- The patterns grow. -/
theorem pw_le {i k : ℕ} (hik : i ≤ k) (hk : k < 256) : pw i ≤ pw k := by
  rcases hik.eq_or_lt with rfl | h
  · exact le_rfl
  · exact (pw_lt h hk).le

/-- A value that is not negative lies at or above exactly the patterns up to some one. -/
theorem exists_field (s : EReal) (hs : 0 ≤ s) : ∃ b < 256, ∀ k < 256, s < pw k ↔ b < k := by
  classical
  have h0 : ∃ b, b < 256 ∧ pw b ≤ s := ⟨0, by norm_num, by rw [pw_zero]; exact hs⟩
  obtain ⟨b, ⟨hb, hbs⟩, hmax⟩ : ∃ b, (b < 256 ∧ pw b ≤ s) ∧ ∀ k, k < 256 ∧ pw k ≤ s → k ≤ b := by
    refine ⟨Nat.findGreatest (fun b => b < 256 ∧ pw b ≤ s) 255, ?_, ?_⟩
    · obtain ⟨b, hb⟩ := h0
      exact Nat.findGreatest_spec (P := fun b => b < 256 ∧ pw b ≤ s) (by omega) hb
    · intro k hk
      exact Nat.le_findGreatest (by omega) hk
  refine ⟨b, hb, fun k hk => ⟨fun h => ?_, fun h => ?_⟩⟩
  · by_contra hle
    exact absurd (h.trans_le ((pw_le (Nat.le_of_not_lt hle) hb).trans hbs)) (lt_irrefl _)
  · by_contra hle
    exact absurd (hmax k ⟨hk, not_lt.1 hle⟩) (by omega)

/-! ### The reference's form -/

theorem ofBits_least : Ideal.ofBits .f32 0x00800000#32 = pw 1 := by unfold pw; rfl
theorem ofBits_one : Ideal.ofBits .f32 0x3F800000#32 = pw 127 := by unfold pw; rfl
theorem ofBits_most : Ideal.ofBits .f32 0x7F000000#32 = pw 254 := by unfold pw; rfl
theorem ofBits_top : Ideal.ofBits .f32 0x7F800000#32 = pw 255 := by unfold pw; rfl
theorem ofBits_bot : Ideal.ofBits .f32 0xFF800000#32 = ⊥ := by simp [Ideal.ofBits, Ideal.ieee]
theorem pw_one : pw 127 = 1 := by rw [← ofBits_one, Ideal.ofBits_one_f32]

/-- A selection by a comparison. -/
theorem select_decide {α : Type} (p : Prop) [Decidable p] (a b : α) :
    Scalar.select (BitVec.ofBool (decide p)) a b = if p then a else b := by
  by_cases h : p <;> simp [Scalar.select, h]

/-- A selection by either of two comparisons. -/
theorem select_or {α : Type} (p q : Prop) [Decidable p] [Decidable q] (a b : α) :
    Scalar.select (IntOp.ori (BitVec.ofBool (decide p)) (BitVec.ofBool (decide q))) a b = if p ∨ q then a else b := by
  by_cases h : p <;> by_cases h' : q <;> simp [Scalar.select, IntOp.ori, h, h']

/-- The powers of two the reference compares with. -/
def pow2 (j : ℕ) : EReal := Ideal.exp2 (FloatOps.sitofp (F := Ideal) .f32 (BitVec.ofNat 32 j) - Ideal.ofBits .f32 0x42FA0000#32)

/-- The scale of a row whose greatest absolute value over 448 is `s`. -/
def scale (s : EReal) : EReal :=
  Scalar.select (IntOp.ori (BitVec.ofBool (decide (s < Ideal.ofBits .f32 0x00800000#32)))
    (BitVec.ofBool (decide (s = Ideal.ofBits .f32 0x7F800000#32)))) 1
    (Finset.univ.fold min (Ideal.ofBits .f32 0x7F800000#32) fun j : Fin 253 =>
      if s < pow2 j then pow2 j else Ideal.ofBits .f32 0x7F800000#32)

/-- The inverse of a scale, as f32 has it. -/
def inv (z : EReal) : EReal :=
  Scalar.select (BitVec.ofBool (decide (z = Ideal.ofBits .f32 0x7F800000#32))) (Ideal.ofBits .f32 0xFF800000#32)
    (Scalar.select (BitVec.ofBool (decide (z = Ideal.ofBits .f32 0x7F000000#32))) 0 (Ideal.div 1 z))

/-- The `j`-th power of two is the pattern with exponent field `j + 2`. -/
theorem pow2_eq (j : ℕ) (h : j < 253) : pow2 j = pw (j + 2) := by
  have h125 : Ideal.ofBits .f32 0x42FA0000#32 = ((125 : ℝ) : EReal) := by
    simp [Ideal.ofBits, Ideal.ieee, -EReal.coe_mul]; norm_num
  have hj : FloatOps.sitofp (F := Ideal) .f32 (BitVec.ofNat 32 j) = ((j : ℝ) : EReal) := by
    show (((BitVec.ofNat 32 j).toInt : ℝ) : EReal) = _
    have e : (BitVec.ofNat 32 j).toInt = (j : ℤ) := by
      have ht : (BitVec.ofNat 32 j).toNat = j := by rw [BitVec.toNat_ofNat]; exact Nat.mod_eq_of_lt (by omega)
      rw [BitVec.toInt_eq_toNat_of_lt (by omega), ht]
    rw [e]
    simp
  unfold pow2
  rw [h125, hj, ← EReal.coe_sub, Ideal.exp2_coe, pw_real (by omega) (by omega)]
  congr 1
  show (2 : ℝ) ^ ((j : ℝ) - 125) = _
  rw [show (j : ℝ) - 125 = (((j + 2 : ℕ) : ℤ) - 127 : ℤ) by push_cast; ring, Real.rpow_intCast]

/-- The scale by the exponent field `b` of `s`. -/
theorem scale_field {s : EReal} {b : ℕ} (hb : b < 256) (h : ∀ k < 256, s < pw k ↔ b < k) :
    scale s = if b = 0 ∨ b = 255 then 1 else pw (b + 1) := by
  have e1 : s < pw 1 ↔ b = 0 := by rw [h 1 (by norm_num)]; omega
  have e2 : s = pw 255 ↔ b = 255 := by
    have := h 255 (by norm_num)
    rw [pw_top] at this ⊢
    rw [← not_iff_not, ← Ne, ← lt_top_iff_ne_top, this]; omega
  unfold scale
  rw [select_or, ofBits_least, ofBits_top]
  by_cases h1 : b = 0 ∨ b = 255
  · rw [if_pos h1, if_pos (by rw [e1, e2]; exact h1)]
  · rw [if_neg h1, if_neg (by rw [e1, e2]; exact h1), pw_top]
    apply le_antisymm
    · rw [Finset.fold_min_le]
      by_cases hb254 : b = 254
      · left; subst hb254; exact pw_top.ge
      · right
        refine ⟨⟨b - 1, by omega⟩, Finset.mem_univ _, ?_⟩
        dsimp only
        rw [pow2_eq _ (by omega), show b - 1 + 2 = b + 1 by omega, if_pos ((h _ (by omega)).2 (by omega))]
    · rw [Finset.le_fold_min]
      refine ⟨le_top, fun j _ => ?_⟩
      rw [pow2_eq _ (show j.val < 253 from j.2)]
      have hj := j.2
      split
      · next hlt =>
        have := (h _ (by omega)).1 hlt
        exact pw_le (by omega) (by omega)
      · exact le_top

/-- The inverse by the exponent field. -/
theorem inv_field (b : ℕ) (hb : b < 255) :
    inv (pw (b + 1)) = if b = 254 then ⊥ else pw (253 - b) := by
  have e1 : pw (b + 1) = pw 255 ↔ b = 254 := by
    constructor
    · intro he; by_contra hne; exact absurd he (pw_lt (by omega) (by norm_num)).ne
    · rintro rfl; rfl
  have e2 : pw (b + 1) = pw 254 ↔ b = 253 := by
    constructor
    · intro he; by_contra hne
      rcases Nat.lt_or_gt_of_ne hne with h | h
      · exact absurd he (pw_lt (by omega) (by norm_num)).ne
      · exact absurd he (pw_lt (by omega) (by omega)).ne'
    · rintro rfl; rfl
  unfold inv
  rw [select_decide, select_decide, ofBits_bot, ofBits_top, ofBits_most]
  simp only [e1, e2]
  split
  · rfl
  split
  · next h2 => rw [h2, show 253 - 253 = 0 from rfl, pw_zero]
  have hpos : (0 : ℝ) < 2 ^ (((b + 1 : ℕ) : ℤ) - 127) := by positivity
  rw [pw_real (by omega) (by omega), pw_real (by omega) (by omega), Ideal.div, if_neg (by exact_mod_cast hpos.ne'), one_mul,
    ← EReal.coe_inv, ← zpow_neg]
  congr 2
  omega

/-- The inverse of the scale one is one. -/
theorem inv_one : inv 1 = 1 := by
  have h := inv_field 126 (by norm_num)
  rw [if_neg (by norm_num)] at h
  rw [pw_one] at h
  exact h

/-! ### The kernel's form -/

/-- How many of the 256 patterns are not above `s`, as a word. -/
def count (s : EReal) : BitVec 32 :=
  Finset.univ.fold IntOp.addi (0#32) fun k : Fin 256 =>
    if s < Ideal.ofBits .f32 (IntOp.shli ArithUnit.vector (BitVec.ofNat 32 k) 23#32) then 0#32 else 1#32

/-- The exponent field of `s`, with 126 in place of the two that name no power of two. -/
def field (s : EReal) : BitVec 32 :=
  Scalar.select (IntOp.ori (IntOp.cmpi .eq (IntOp.subi (count s) 1#32) 0#32) (IntOp.cmpi .eq (IntOp.subi (count s) 1#32) 255#32)) 126#32
    (IntOp.subi (count s) 1#32)

/-- The pattern the kernel builds for exponent field `k`. -/
theorem ofBits_shift (k : ℕ) : Ideal.ofBits .f32 (IntOp.shli ArithUnit.vector (BitVec.ofNat 32 k) 23#32) = pw k := by
  unfold pw
  refine congrArg (Ideal.ofBits .f32) (BitVec.eq_of_toNat_eq ?_)
  rw [show IntOp.shli ArithUnit.vector (BitVec.ofNat 32 k) 23#32 = BitVec.ofNat 32 k <<< 23 from rfl, BitVec.toNat_shiftLeft,
    BitVec.toNat_ofNat, BitVec.toNat_ofNat, Nat.shiftLeft_eq]
  have e : FTy.f32.bits = 32 := rfl
  simp only [e]
  omega

/-- The count is one more than the exponent field. -/
theorem count_field {s : EReal} {b : ℕ} (hb : b < 256) (h : ∀ k < 256, s < pw k ↔ b < k) : count s = BitVec.ofNat 32 (b + 1) := by
  have e : count s = Finset.univ.fold IntOp.addi (0#32) fun k : Fin 256 => (if b < k.val then 0#1 else 1#1 : BitVec 1).setWidth 32 := by
    unfold count
    refine Finset.fold_congr fun k _ => ?_
    rw [ofBits_shift]
    by_cases hk' : b < k.val
    · rw [if_pos ((h k k.2).2 hk'), if_pos hk']; rfl
    · rw [if_neg (fun hh => hk' ((h k k.2).1 hh)), if_neg hk']; rfl
  rw [e, IndicatorCount.fold_addi_setWidth_eq_card]
  congr 1
  have : (Finset.univ.filter fun k : Fin 256 => (if b < k.val then 0#1 else 1#1 : BitVec 1) = 1#1) = Finset.Iic (⟨b, hb⟩ : Fin 256) := by
    ext k
    simp only [Finset.mem_filter, Finset.mem_univ, true_and, Finset.mem_Iic, Fin.le_def]
    split <;> simp <;> omega
  rw [this, Fin.card_Iic]

/-- The selection that puts 126 for the fields 0 and 255. -/
theorem field_word : ∀ b < 256, Scalar.select (IntOp.ori (IntOp.cmpi .eq (BitVec.ofNat 32 b) 0#32) (IntOp.cmpi .eq (BitVec.ofNat 32 b) 255#32))
    126#32 (BitVec.ofNat 32 b) = BitVec.ofNat 32 (if b = 0 ∨ b = 255 then 126 else b) := by
  decide +kernel

/-- The patterns not above `s`, counted and less one, are its exponent field, 126 in place of 0 and of 255. -/
theorem field_eq {s : EReal} {b : ℕ} (hb : b < 256) (h : ∀ k < 256, s < pw k ↔ b < k) :
    field s = BitVec.ofNat 32 (if b = 0 ∨ b = 255 then 126 else b) := by
  have e : IntOp.subi (BitVec.ofNat 32 (b + 1)) 1#32 = BitVec.ofNat 32 b := by
    rw [BitVec.ofNat_add]; exact BitVec.add_sub_cancel _ _
  unfold field
  rw [count_field hb h, e, field_word b hb]

theorem add_one_word (k : ℕ) : IntOp.addi (BitVec.ofNat 32 k) 1#32 = BitVec.ofNat 32 (k + 1) := (BitVec.ofNat_add ..).symm

theorem sub_word : ∀ k < 254, IntOp.subi 253#32 (BitVec.ofNat 32 k) = BitVec.ofNat 32 (253 - k) := by decide +kernel

/-- The kernel's scale is the reference's. -/
theorem scale_eq (s : EReal) (hs : 0 ≤ s) :
    Ideal.ofBits .f32 (IntOp.shli ArithUnit.vector (IntOp.addi (field s) 1#32) 23#32) = scale s := by
  obtain ⟨b, hb, h⟩ := exists_field s hs
  rw [field_eq hb h, scale_field hb h, add_one_word, ofBits_shift]
  split
  · exact pw_one
  · rfl

/-- The kernel's inverse is the reference's inverse of the scale. -/
theorem inv_eq (s : EReal) (hs : 0 ≤ s) :
    Ideal.ofBits .f32 (IntOp.shli ArithUnit.vector (IntOp.subi 253#32 (field s)) 23#32) = inv (scale s) := by
  obtain ⟨b, hb, h⟩ := exists_field s hs
  rw [field_eq hb h, scale_field hb h]
  split
  · rw [sub_word 126 (by norm_num), ofBits_shift, inv_one]
    exact pw_one
  · rw [inv_field b (by omega)]
    split
    · next h254 =>
      subst h254
      rw [show IntOp.shli ArithUnit.vector (IntOp.subi 253#32 (BitVec.ofNat 32 254)) 23#32 = 0xFF800000#32 by decide +kernel, ofBits_bot]
    · rw [sub_word b (by omega), ofBits_shift]

end Cert.Scale
-- ==== Proof.Spec.lean ====
module

public import proofs.«01_k».proof.Proof.Scale

@[expose] public section

/-! The problem's mathematics on extended reals, one row at a time: the quantisation of a row, and the SwiGLU of two projections
of its codes. -/

noncomputable section

namespace Cert.Spec

open Idealize.ShloMosaic

/-- The absolute value. -/
def abs (x : EReal) : EReal := FloatOps.absf (F := Ideal) (φ := .f32) x

theorem abs_nonneg (x : EReal) : 0 ≤ abs x := by
  show 0 ≤ max x (-x)
  rcases le_total 0 x with h | h
  · exact h.trans (le_max_left _ _)
  · exact (EReal.neg_nonneg.2 h).trans (le_max_right _ _)

theorem abs_zero : abs 0 = 0 := by
  show max (0 : EReal) (-0) = 0
  simp

/-- The greatest absolute value of a row. -/
def amax {n : ℕ} (v : Fin n → EReal) : EReal := Finset.univ.fold max 0 fun k => abs (v k)

/-- Started at negative infinity it is the same, in a row that is not empty. -/
theorem amax_bot {n : ℕ} (hn : 0 < n) (v : Fin n → EReal) : (Finset.univ.fold max ⊥ fun k => abs (v k)) = amax v := by
  unfold amax
  apply le_antisymm
  · rw [Finset.fold_max_le]
    exact ⟨bot_le, fun k _ => (Finset.le_fold_max _).2 (Or.inr ⟨k, Finset.mem_univ _, le_rfl⟩)⟩
  · rw [Finset.fold_max_le]
    refine ⟨(Finset.le_fold_max _).2 (Or.inr ⟨⟨0, hn⟩, Finset.mem_univ _, abs_nonneg _⟩), fun k _ => ?_⟩
    exact (Finset.le_fold_max _).2 (Or.inr ⟨k, Finset.mem_univ _, le_rfl⟩)

theorem amax_nonneg {n : ℕ} (v : Fin n → EReal) : 0 ≤ amax v := (Finset.le_fold_max _).2 (Or.inl le_rfl)

/-- The greatest absolute value over the greatest fp8 value. -/
def ratio {n : ℕ} (v : Fin n → EReal) : EReal := amax v * Ideal.ofBits .f32 0x3B124925#32

theorem ratio_nonneg {n : ℕ} (v : Fin n → EReal) : 0 ≤ ratio v := by
  refine mul_nonneg (amax_nonneg v) ?_
  have e : Ideal.ofBits .f32 0x3B124925#32 = (((2 : ℝ) ^ (-32 : ℤ) * 9586981 : ℝ) : EReal) := by
    simp [Ideal.ofBits, Ideal.ieee, -EReal.coe_mul]; norm_num
  rw [e]
  exact EReal.coe_nonneg.2 (by positivity)

/-- A row's scale. -/
def rowScale {n : ℕ} (v : Fin n → EReal) : EReal := Scale.scale (ratio v)

/-- A value's code, by its row's scale. -/
def code (s x : EReal) : EReal := min (Ideal.ofBits .f32 0x43E00000#32) (max (Ideal.ofBits .f32 0xC3E00000#32) (x * Scale.inv s))

/-- A projection of a row's codes, scaled back. -/
def proj (x : Fin 1024 → EReal) (w : Fin 1024 → EReal) (t : EReal) : EReal :=
  (∑ k, code (rowScale x) (x k) * w k) * rowScale x * t

/-- The sigmoid of the gate times gate and up. -/
def swiglu (g u : EReal) : EReal := g * Ideal.div 1 (1 + Ideal.exp (0 - g)) * u

/-- The gate's column. -/
abbrev gcol (c : Fin 2816) : Fin 5632 := ⟨c.val, by omega⟩
/-- The up projection's column. -/
abbrev ucol (c : Fin 2816) : Fin 5632 := ⟨c.val + 2816, by omega⟩

/-- A row's value in a column, by the expert's weights and their scales. -/
def value (x : Fin 1024 → EReal) (w : Fin 1024 → Fin 5632 → EReal) (t : Fin 5632 → EReal) (c : Fin 2816) : EReal :=
  swiglu (proj x (fun k => w k (gcol c)) (t (gcol c))) (proj x (fun k => w k (ucol c)) (t (ucol c)))

/-- A row of no expert has hidden value zero. -/
theorem swiglu_zero : swiglu 0 0 = 0 := by unfold swiglu; rw [mul_zero]

end Cert.Spec
-- ==== Proof.Entry.lean ====
module

public import proofs.«01_k».proof.Proof.Visit
public import proofs.«01_k».proof.Proof.Spec

@[expose] public section

/-! The payloads of a visit, entry by entry over the extended reals. -/

set_option maxRecDepth 16384

noncomputable section

namespace Cert.KernelIdeal.Entry

open Cert.KernelIdeal.Gen Cert.KernelIdeal.Visit
open Idealize.ShloMosaic
open Cert.Spec (rowScale code value proj swiglu)

/-- A row's count, from a vector of per-row greatest absolute values. -/
theorem pay4_apply (v : Vec Ideal S256x1024 .bf16) (r : Fin 256) :
    k0_pay4 (F := Ideal) v (ix2 r 0) = Scale.field (Spec.ratio fun k => v (ix2 r k)) := by
  rw [show Spec.ratio (fun k => v (ix2 r k)) = (Finset.univ.fold max (Ideal.ofBits .f32 0xFF800000#32) fun k => FloatOps.absf (F := Ideal) (φ := .f32) (v (ix2 r k))) * Ideal.ofBits .f32 0x3B124925#32 by
    rw [Scale.ofBits_bot]; exact congrArg (· * _) (Spec.amax_bot (by norm_num) _).symm]
  unfold Scale.field Scale.count
  pointwise [k0_pay4, k0_pay3]

/-- A row's scale. -/
theorem pay5_apply (v : Vec Ideal S256x1024 .bf16) (r : Fin 256) :
    k0_pay5 (F := Ideal) v (ix2 r 0) = rowScale fun k => v (ix2 r k) := by
  unfold rowScale
  rw [← Scale.scale_eq _ (Spec.ratio_nonneg _), ← pay4_apply]
  pointwise [k0_pay5]

/-- A row's codes. -/
theorem codes_apply (v : Vec Ideal S256x1024 .bf16) (r : Fin 256) (k : Fin 1024) :
    k0_pay7 (F := Ideal) top (k0_pay6 v) (ix2 r k) = code (rowScale fun k => v (ix2 r k)) (v (ix2 r k)) := by
  unfold code rowScale
  rw [← Scale.inv_eq _ (Spec.ratio_nonneg _), ← pay4_apply]
  pointwise [k0_pay7, k0_pay6, top, k0_pay3]

/-- A chunk's entry. -/
theorem pay36_apply (v45 : FVec Ideal S256x1 .f32) (v57 : FVec Ideal S256x1024 .fp8e4m3) (v66 v70 : IVec S256x1 1) (v292 v295 : Vec Ideal S1x1024x256 .fp8e4m3)
    (v300 v306 : Vec Ideal S1x1x256 .f32) (v319 : Vec Ideal S256x256 .f32) (r l : Fin 256) :
    k0_pay36 (F := Ideal) v45 v57 v66 v70 v292 v295 v300 v306 v319 (ix2 r l)
      = Scalar.select (v66 (ix2 r 0))
          (swiglu ((∑ k, v57 (ix2 r k) * v292 (ix3 0 k l)) * v45 (ix2 r 0) * v300 (ix3 0 0 l))
            ((∑ k, v57 (ix2 r k) * v295 (ix3 0 k l)) * v45 (ix2 r 0) * v306 (ix3 0 0 l)))
          (Scalar.select (v70 (ix2 r 0)) (v319 (ix2 r l)) 0) := by
  unfold swiglu
  pointwise [k0_pay36]

/-- The count of a row, from the register of greatest absolute values. -/
theorem counts_apply (v : FVec Ideal S256x128 .f32) (r : Fin 256) :
    counts (F := Ideal) v (ix2 r 0)
      = Scale.count ((Finset.univ.fold max (Ideal.ofBits .f32 0xFF800000#32) fun k => v (ix2 r k)) * Ideal.ofBits .f32 0x3B124925#32) := by
  unfold Scale.count
  pointwise [counts]

theorem pay64_apply (v : IVec S256x1 32) (s : EReal) (r : Fin 256) (h : v (ix2 r 0) = Scale.count s) :
    k0_pay64 v (ix2 r 0) = Scale.field s := by
  unfold Scale.field
  rw [← h]
  pointwise [k0_pay64]

/-- A row's output scale. -/
theorem pay65_apply (v : IVec S256x1 32) (s : EReal) (hs : 0 ≤ s) (r : Fin 256) (h : v (ix2 r 0) = Scale.count s) :
    k0_pay65 (F := Ideal) v (ix2 r 0) = Scale.scale s := by
  rw [← Scale.scale_eq s hs, ← pay64_apply v s r h]
  pointwise [k0_pay65]

/-- A row's output codes. -/
theorem pay67_apply (v : IVec S256x1 32) (s : EReal) (hs : 0 ≤ s) (r : Fin 256) (h : v (ix2 r 0) = Scale.count s) (w : Vec Ideal S256x256 .f32) (l : Fin 256) :
    k0_pay67 (F := Ideal) v w (ix2 r l) = code (Scale.scale s) (w (ix2 r l)) := by
  unfold code
  rw [← Scale.inv_eq s hs, ← pay64_apply v s r h]
  pointwise [k0_pay67, k0_pay66]

/-- The register after another chunk. -/
theorem reg_apply (p : FVec Ideal S256x128 .f32) (h : FVec Ideal S256x256 .f32) (r : Fin 256) (l : Fin 128) :
    reg p h (ix2 r l) = max (max (p (ix2 r l)) (Spec.abs (h (ix2 r ⟨l.val, by omega⟩)))) (Spec.abs (h (ix2 r ⟨128 + l.val, by omega⟩))) := by
  unfold Spec.abs
  pointwise [reg]

/-- The register's bound: it is at most `z` when every absolute value it has taken is. -/
theorem regs_le (h : Fin 11 → FVec Ideal S256x256 .f32) (r : Fin 256) (l : Fin 128) (z : EReal) (n : ℕ) :
    regs h n (ix2 r l) ≤ z ↔ 0 ≤ z ∧ ∀ m < n, Spec.abs (h (Fin.ofNat 11 m) (ix2 r ⟨l.val, by omega⟩)) ≤ z
      ∧ Spec.abs (h (Fin.ofNat 11 m) (ix2 r ⟨128 + l.val, by omega⟩)) ≤ z := by
  induction n with
  | zero =>
    have e : regs h 0 (ix2 r l) = 0 := by
      show k0_pay10 (F := Ideal) (ix2 r l) = 0
      pointwise [k0_pay10]
    rw [e]; simp
  | succ n ih =>
    show reg (regs h n) (h (Fin.ofNat 11 n)) (ix2 r l) ≤ z ↔ _
    rw [reg_apply, max_le_iff, max_le_iff, ih]
    constructor
    · rintro ⟨⟨⟨h0, hm⟩, h1⟩, h2⟩
      refine ⟨h0, fun m hmn => ?_⟩
      rcases Nat.lt_succ_iff_lt_or_eq.1 hmn with hlt | rfl
      · exact hm m hlt
      · exact ⟨h1, h2⟩
    · rintro ⟨h0, hm⟩
      exact ⟨⟨⟨h0, fun m hmn => hm m (by omega)⟩, (hm n (by omega)).1⟩, (hm n (by omega)).2⟩

/-- All chunks taken, the lanes' greatest is the row's greatest absolute value. -/
theorem regs_amax (h : Fin 11 → FVec Ideal S256x256 .f32) (r : Fin 256) (g : Fin 2816 → EReal)
    (hg : ∀ (q : Fin 11) (l : Fin 256), h q (ix2 r l) = g ⟨256 * q.val + l.val, by omega⟩) :
    (Finset.univ.fold max (Ideal.ofBits .f32 0xFF800000#32) fun k => regs h 11 (ix2 r k)) = Spec.amax g := by
  refine eq_of_forall_ge_iff fun z => ?_
  unfold Spec.amax
  rw [Scale.ofBits_bot, Finset.fold_max_le, Finset.fold_max_le]
  constructor
  · rintro ⟨-, hl⟩
    refine ⟨((regs_le h r 0 z 11).1 (hl 0 (Finset.mem_univ _))).1, fun x _ => ?_⟩
    have hx := x.2
    have hq : Fin.ofNat 11 (x.val / 256) = ⟨x.val / 256, by omega⟩ := Fin.ext (Nat.mod_eq_of_lt (by omega))
    by_cases hlo : x.val % 256 < 128
    · have := (((regs_le h r ⟨x.val % 256, hlo⟩ z 11).1 (hl _ (Finset.mem_univ _))).2 (x.val / 256) (by omega)).1
      rw [hq, hg] at this
      convert this using 3
      exact Fin.ext (by simp only; omega)
    · have := (((regs_le h r ⟨x.val % 256 - 128, by omega⟩ z 11).1 (hl _ (Finset.mem_univ _))).2 (x.val / 256) (by omega)).2
      rw [hq, hg] at this
      convert this using 3
      exact Fin.ext (by simp only; omega)
  · rintro ⟨h0, hx⟩
    refine ⟨bot_le, fun l _ => (regs_le h r l z 11).2 ⟨h0, fun m _ => ?_⟩⟩
    rw [hg, hg]
    exact ⟨hx _ (Finset.mem_univ _), hx _ (Finset.mem_univ _)⟩

end Cert.KernelIdeal.Entry
-- ==== Proof.VisitValue.lean ====
module

public import proofs.«01_k».proof.Proof.Entry
public import Idealize.ShloMosaic.Lib.WholeRead
public import Idealize.ShloMosaic.Lib.WordCmp
public import Idealize.ShloMosaic.Lib.Pipeline.Value

@[expose] public section

/-! What a visit with work leaves in the scratch buffer and in the two results' blocks, entry by entry. -/

set_option maxRecDepth 16384

noncomputable section

namespace Cert.KernelIdeal.VisitValue

open Cert.KernelIdeal.Gen Cert.KernelIdeal.Body Cert.KernelIdeal.Visit Cert.KernelIdeal.Entry
open Idealize.ShloMosaic
open Cert.Spec (rowScale code value)

/-! ## The masks -/

/-- The rows that are the visit's own. -/
theorem mine_iff (w0 w2 w3 : BitVec 32) (h0 : w0.toNat < 32) (h2 : w2.toNat ≤ 8192) (h3 : w3.toNat ≤ 8192) (r : Fin 256) :
    k0_pay8 (F := Ideal) w0 w2 w3 (ix2 r 0) = 1#1 ↔ w2.toNat ≤ 256 * w0.toNat + r.val ∧ 256 * w0.toNat + r.val < w3.toNat := by
  have e : k0_pay8 (F := Ideal) w0 w2 w3 (ix2 r 0)
      = IntOp.andi (IntOp.cmpi .sge (IntOp.addi (IntOp.muli w0 256#32) (BitVec.ofNat 32 r.val)) w2)
          (IntOp.cmpi .slt (IntOp.addi (IntOp.muli w0 256#32) (BitVec.ofNat 32 r.val)) w3) := by
    pointwise [k0_pay8]
    rfl
  have hr := r.2
  have ea : (IntOp.addi (IntOp.muli w0 256#32) (BitVec.ofNat 32 r.val)).toNat = 256 * w0.toNat + r.val := by
    show (w0 * 256#32 + BitVec.ofNat 32 r.val).toNat = _
    rw [BitVec.toNat_add, BitVec.toNat_mul, BitVec.toNat_ofNat, BitVec.toNat_ofNat]
    omega
  rw [e, WordCmp.cmpi_sge_of_lt (by rw [ea]; omega) (by omega), WordCmp.cmpi_slt_of_lt (by rw [ea]; omega) (by omega), ea]
  by_cases p : w2.toNat ≤ 256 * w0.toNat + r.val <;> by_cases q : 256 * w0.toNat + r.val < w3.toNat <;> simp [IntOp.andi, p, q]

/-- The rows that keep their earlier value. -/
theorem keep_iff (w0 w2 w3 w4 : BitVec 32) (r : Fin 256) :
    k0_pay9 (F := Ideal) w0 w2 w3 w4 (ix2 r 0) = 1#1 ↔ ¬ k0_pay8 (F := Ideal) w0 w2 w3 (ix2 r 0) = 1#1 ∧ w4 = 0#32 := by
  have e : k0_pay9 (F := Ideal) w0 w2 w3 w4 (ix2 r 0)
      = IntOp.andi (IntOp.xori (k0_pay8 (F := Ideal) w0 w2 w3 (ix2 r 0)) 1#1) (IntOp.cmpi .eq w4 0#32) := by
    pointwise [k0_pay9]
    rfl
  rw [e, WordCmp.cmpi_eq_eq]
  generalize k0_pay8 (F := Ideal) w0 w2 w3 (ix2 r 0) = b
  have hb : b = 0#1 ∨ b = 1#1 := by
    have := b.isLt
    rcases (show b.toNat = 0 ∨ b.toNat = 1 by omega) with h | h
    · exact Or.inl (BitVec.eq_of_toNat_eq h)
    · exact Or.inr (BitVec.eq_of_toNat_eq h)
  by_cases p : w4 = 0#32 <;> rcases hb with rfl | rfl <;> simp [IntOp.andi, IntOp.xori, p]

/-! ## The visit -/

variable (c : Dev nD) (i : grid0.Coords) (arg1 : Memref sig .tc .smem S6x40 .i32) (harg1 : arg1.IsWhole)
    (arg2 : Memref sig .tc .vmem S256x1024 .bf16) (harg2 : arg2.IsWhole) (arg3 : Memref sig .tc .vmem S1x1024x5632 .fp8e4m3) (harg3 : arg3.IsWhole)
    (arg4 : Memref sig .tc .vmem S1x1x5632 .f32) (harg4 : arg4.IsWhole) (arg5 : Memref sig .tc .vmem S256x2816 .fp8e4m3) (harg5 : arg5.IsWhole)
    (arg6 : Memref sig .tc .vmem S256x1 .f32) (harg6 : arg6.IsWhole) (arg7 : Memref sig .tc .vmem S256x2816 .f32) (harg7 : arg7.IsWhole)
    (x1 : Vec Ideal S6x40 .i32) (x2 : Vec Ideal S256x1024 .bf16) (x3 : Vec Ideal S1x1024x5632 .fp8e4m3) (x4 : Vec Ideal S1x1x5632 .f32) (x7 : Vec Ideal S256x2816 .f32)

/-- The visit's value at a row and a column: computed for its own rows, kept or zero for the others. -/
def row (r : Fin 256) (j : Fin 2816) : EReal :=
  Scalar.select (mine (F := Ideal) i arg1 harg1 x1 (ix2 r 0))
    (value (fun k => x2 (ix2 r k)) (fun k j => x3 (ix3 0 k j)) (fun j => x4 (ix3 0 0 j)) j)
    (Scalar.select (keep (F := Ideal) i arg1 harg1 x1 (ix2 r 0)) (x7 (ix2 r j)) 0)

theorem rows_apply (r : Fin 256) (k : Fin 1024) : rows (F := Ideal) arg2 harg2 x2 (ix2 r k) = x2 (ix2 r k) := by
  unfold rows
  rw [harg2.readAt_unread]
  congr 1
  funext a
  apply Fin.ext
  match a with
  | 0 => show 0 + 1 * r.val = r.val; omega
  | 1 => show 0 + 1 * k.val = k.val; omega

theorem cols_apply (q : Fin 22) (k : Fin 1024) (l : Fin 256) :
    cols (F := Ideal) arg3 harg3 x3 q (ix3 0 k l) = x3 (ix3 0 k ⟨256 * q.val + l.val, by omega⟩) := by
  unfold cols
  rw [harg3.readAt_unread]
  congr 1
  funext a
  apply Fin.ext
  match a with
  | 0 => rfl
  | 1 => show 0 + 1 * k.val = k.val; omega
  | 2 => show 256 * q.val + 1 * l.val = 256 * q.val + l.val; omega

theorem scls_apply (q : Fin 22) (l : Fin 256) :
    scls (F := Ideal) arg4 harg4 x4 q (ix3 0 0 l) = x4 (ix3 0 0 ⟨256 * q.val + l.val, by omega⟩) := by
  unfold scls
  rw [harg4.readAt_unread]
  congr 1
  funext a
  apply Fin.ext
  match a with
  | 0 => rfl
  | 1 => rfl
  | 2 => show 256 * q.val + 1 * l.val = 256 * q.val + l.val; omega

theorem olds_apply (q : Fin 11) (r l : Fin 256) :
    olds (F := Ideal) arg7 harg7 x7 q (ix2 r l) = x7 (ix2 r ⟨256 * q.val + l.val, by omega⟩) := by
  unfold olds
  rw [harg7.readAt_unread]
  congr 1
  funext a
  apply Fin.ext
  match a with
  | 0 => show 0 + 1 * r.val = r.val; omega
  | 1 => show 256 * q.val + 1 * l.val = 256 * q.val + l.val; omega

/-- A chunk holds the visit's values in its columns. -/
theorem chunk_apply (q : Fin 11) (r l : Fin 256) :
    chunk i arg1 harg1 arg2 harg2 arg3 harg3 arg4 harg4 arg7 harg7 x1 x2 x3 x4 x7 q (ix2 r l)
      = row i arg1 harg1 x1 x2 x3 x4 x7 r ⟨256 * q.val + l.val, by omega⟩ := by
  have hu : ∀ h, (⟨256 * (q.val + 11) + l.val, h⟩ : Fin 5632) = Spec.ucol ⟨256 * q.val + l.val, by omega⟩ := fun h => Fin.ext (by simp only; omega)
  unfold chunk row value Spec.proj
  rw [pay36_apply, pay5_apply, olds_apply, scls_apply, scls_apply]
  simp only [codes_apply, cols_apply, rows_apply, hu]

/-- The place of a chunk's entry in the whole block. -/
theorem emb_chunk (q : Fin 11) (x : S256x256.Idx) :
    (Rect.unit (s := S256x2816) ![0, 256 * q.val] S256x256.size (inb_h q)).emb x
      = ix2 (x 0) ⟨256 * q.val + (x 1).val, by have := (x 1).isLt; have : (x 1).val < 256 := this; omega⟩ := by
  funext a
  apply Fin.ext
  rw [Rect.emb_apply]
  match a with
  | 0 => show 0 + 1 * (x 0).val = (x 0).val; omega
  | 1 => show 256 * q.val + 1 * (x 1).val = 256 * q.val + (x 1).val; omega

/-- The visit's whole block of values. -/
def block : Vec Ideal S256x2816 .f32 := fun y => row i arg1 harg1 x1 x2 x3 x4 x7 (y 0) (y 1)

theorem pieces_block (p) (hp : p ∈ pieces i arg1 harg1 arg2 harg2 arg3 harg3 arg4 harg4 arg7 harg7 x1 x2 x3 x4 x7) (x : p.1.shape.Idx) :
    p.2 x = block i arg1 harg1 x1 x2 x3 x4 x7 (p.1.emb x) := by
  unfold pieces at hp
  obtain ⟨q, -, rfl⟩ := List.mem_map.1 hp
  show shapeCast S256x256 (chunk i arg1 harg1 arg2 harg2 arg3 harg3 arg4 harg4 arg7 harg7 x1 x2 x3 x4 x7 q) shapeCasts_S256x256_S256x256 x = _
  rw [shapeCast_self, show (piece i arg1 harg1 arg2 harg2 arg3 harg3 arg4 harg4 arg7 harg7 x1 x2 x3 x4 x7 q).1.emb x = _ from emb_chunk q x]
  have hx : (x : S256x256.Idx) = ix2 (x 0) (x 1) := by
    funext a
    match a with
    | 0 => rfl
    | 1 => rfl
  rw [hx]
  exact chunk_apply ..

/-- What the visit leaves in the scratch buffer. -/
theorem scratch_apply (v : View sig .tc .vmem S256x2816 .f32) (f : v.ty.Contents (Elt Ideal)) (y : S256x2816.Idx)
    (hcov : ∃ p ∈ (kernelRun c i arg1 harg1 arg2 harg2 arg3 harg3 arg4 harg4 arg5 harg5 arg6 harg6 arg7 harg7 x1 x2 x3 x4 x7).2.2.1, y ∈ p.1.set) :
    v.read (Elt Ideal) (v.writes (Elt Ideal) f (kernelRun c i arg1 harg1 arg2 harg2 arg3 harg3 arg4 harg4 arg5 harg5 arg6 harg6 arg7 harg7 x1 x2 x3 x4 x7).2.2.1) y
      = block i arg1 harg1 x1 x2 x3 x4 x7 y := by
  refine View.read_writes_apply_of_pieces v f (block i arg1 harg1 x1 x2 x3 x4 x7) _ ?_ y hcov
  rw [run_scratch]
  exact pieces_block i arg1 harg1 arg2 harg2 arg3 harg3 arg4 harg4 arg7 harg7 x1 x2 x3 x4 x7

/-- The visit's count at a row. -/
theorem cnt_apply (r : Fin 256) :
    cnt i arg1 harg1 arg2 harg2 arg3 harg3 arg4 harg4 arg7 harg7 x1 x2 x3 x4 x7 (ix2 r 0)
      = Scale.count (Spec.ratio (row i arg1 harg1 x1 x2 x3 x4 x7 r)) := by
  unfold cnt
  rw [counts_apply, regs_amax _ r (row i arg1 harg1 x1 x2 x3 x4 x7 r) fun q l => chunk_apply ..]
  rfl

/-- What the visit leaves in the scales' block. -/
theorem scale_apply (v : View sig .tc .vmem S256x1 .f32) (f : v.ty.Contents (Elt Ideal)) (r : Fin 256)
    (hcov : ∃ p ∈ (kernelRun c i arg1 harg1 arg2 harg2 arg3 harg3 arg4 harg4 arg5 harg5 arg6 harg6 arg7 harg7 x1 x2 x3 x4 x7).2.1, ix2 r 0 ∈ p.1.set) :
    v.read (Elt Ideal) (v.writes (Elt Ideal) f (kernelRun c i arg1 harg1 arg2 harg2 arg3 harg3 arg4 harg4 arg5 harg5 arg6 harg6 arg7 harg7 x1 x2 x3 x4 x7).2.1) (ix2 r 0)
      = rowScale (row i arg1 harg1 x1 x2 x3 x4 x7 r) := by
  refine (View.read_writes_apply_of_pieces v f (fun y : S256x1.Idx => rowScale (row i arg1 harg1 x1 x2 x3 x4 x7 (y 0))) _ ?_ _ hcov).trans rfl
  rw [run_scale]
  intro p hp x
  obtain rfl := List.mem_singleton.1 hp
  have hx : (x : S256x1.Idx) = ix2 (x 0) 0 := by
    funext a
    match a with
    | 0 => rfl
    | 1 => exact Fin.ext (by have : (x 1).val < 1 := (x 1).isLt; show (x 1).val = 0; omega)
  have he : ((Rect.unit (s := S256x1) ![0, 0] S256x1.size inb_S256x1_S256x1_0_0).emb x) 0 = x 0 := by
    apply Fin.ext; rw [Rect.emb_apply]; show 0 + 1 * (x 0).val = (x 0).val; omega
  show k0_pay65 (F := Ideal) (cnt i arg1 harg1 arg2 harg2 arg3 harg3 arg4 harg4 arg7 harg7 x1 x2 x3 x4 x7) x = rowScale (row i arg1 harg1 x1 x2 x3 x4 x7 (((Rect.unit (s := S256x1) ![0, 0] S256x1.size inb_S256x1_S256x1_0_0).emb x) 0))
  rw [he, hx]
  exact pay65_apply _ _ (Spec.ratio_nonneg _) _ (cnt_apply ..)

/-- What the visit leaves in the codes' block. -/
theorem out_codes_apply (v : View sig .tc .vmem S256x2816 .fp8e4m3) (f : v.ty.Contents (Elt Ideal)) (r : Fin 256) (j : Fin 2816)
    (hcov7 : ∀ y, ∃ p ∈ (kernelRun c i arg1 harg1 arg2 harg2 arg3 harg3 arg4 harg4 arg5 harg5 arg6 harg6 arg7 harg7 x1 x2 x3 x4 x7).2.2.1, y ∈ p.1.set)
    (hcov : ∃ p ∈ (kernelRun c i arg1 harg1 arg2 harg2 arg3 harg3 arg4 harg4 arg5 harg5 arg6 harg6 arg7 harg7 x1 x2 x3 x4 x7).1, ix2 r j ∈ p.1.set) :
    v.read (Elt Ideal) (v.writes (Elt Ideal) f (kernelRun c i arg1 harg1 arg2 harg2 arg3 harg3 arg4 harg4 arg5 harg5 arg6 harg6 arg7 harg7 x1 x2 x3 x4 x7).1) (ix2 r j)
      = code (rowScale (row i arg1 harg1 x1 x2 x3 x4 x7 r)) (row i arg1 harg1 x1 x2 x3 x4 x7 r j) := by
  refine (View.read_writes_apply_of_pieces v f (fun y : S256x2816.Idx => code (rowScale (row i arg1 harg1 x1 x2 x3 x4 x7 (y 0))) (row i arg1 harg1 x1 x2 x3 x4 x7 (y 0) (y 1))) _ ?_ _ hcov).trans rfl
  rw [run_codes]
  rw [run_scratch] at hcov7
  intro p hp x
  obtain ⟨q, -, rfl⟩ := List.mem_map.1 hp
  have hx : (x : S256x256.Idx) = ix2 (x 0) (x 1) := by
    funext a
    match a with
    | 0 => rfl
    | 1 => rfl
  have H : ∀ a b : Fin 256, k0_pay67 (F := Ideal) (cnt i arg1 harg1 arg2 harg2 arg3 harg3 arg4 harg4 arg7 harg7 x1 x2 x3 x4 x7) (arg7.view.readCov (pieces i arg1 harg1 arg2 harg2 arg3 harg3 arg4 harg4 arg7 harg7 x1 x2 x3 x4 x7)
        (Rect.unit (s := S256x2816) ![0, 256 * q.val] S256x256.size (inb_h q)).toLoadRect) (ix2 a b)
      = code (rowScale (row i arg1 harg1 x1 x2 x3 x4 x7 a)) (row i arg1 harg1 x1 x2 x3 x4 x7 a ⟨256 * q.val + b.val, by omega⟩) := by
    intro a b
    rw [pay67_apply _ _ (Spec.ratio_nonneg _) _ (cnt_apply ..)]
    refine congrArg (code _) ?_
    refine (View.read_writes_apply_of_pieces arg7.view arg7.view.junk (block i arg1 harg1 x1 x2 x3 x4 x7) _
      (pieces_block i arg1 harg1 arg2 harg2 arg3 harg3 arg4 harg4 arg7 harg7 x1 x2 x3 x4 x7) _ (hcov7 _)).trans ?_
    show block i arg1 harg1 x1 x2 x3 x4 x7 ((Rect.unit (s := S256x2816) ![0, 256 * q.val] S256x256.size (inb_h q)).emb (ix2 a b)) = _
    rw [emb_chunk]
    rfl
  rw [show (codePiece i arg1 harg1 arg2 harg2 arg3 harg3 arg4 harg4 arg7 harg7 x1 x2 x3 x4 x7 q).1.emb x = _ from emb_chunk q x]
  show k0_pay67 (F := Ideal) (cnt i arg1 harg1 arg2 harg2 arg3 harg3 arg4 harg4 arg7 harg7 x1 x2 x3 x4 x7) (arg7.view.readCov (pieces i arg1 harg1 arg2 harg2 arg3 harg3 arg4 harg4 arg7 harg7 x1 x2 x3 x4 x7)
        (Rect.unit (s := S256x2816) ![0, 256 * q.val] S256x256.size (inb_h q)).toLoadRect) x = code (rowScale (row i arg1 harg1 x1 x2 x3 x4 x7 (x 0))) (row i arg1 harg1 x1 x2 x3 x4 x7 (x 0) ⟨256 * q.val + (x 1).val, _⟩)
  rw [hx]
  exact H (x 0) (x 1)

end Cert.KernelIdeal.VisitValue
-- ==== Proof.Full.lean ====
module

public import proofs.«01_k».proof.Proof.Spec
public import proofs.«01_k».proof.Proof.Plan

@[expose] public section

/-! A row of the whole result: the value by the weights of the expert whose group the row lies in, or zero when it lies in none. And
how the visits build it, a block of rows at a time. -/

noncomputable section

namespace Cert.Spec

open Idealize.ShloMosaic Cert.Plan

/-- The first row of group `g`, as the table's third row says it: 0 for the rows after every group. -/
def lo (n : ℕ → ℕ) (g : ℕ) : ℕ := if g < 8 then bnd n g else 0
/-- The end of group `g`, as the table's fourth row says it: 0 for the rows after every group. -/
def hi (n : ℕ → ℕ) (g : ℕ) : ℕ := if g < 8 then bnd n (g + 1) else 0

section Rows

variable (n : ℕ → ℕ) (x : Fin 8192 → Fin 1024 → EReal) (w : Fin 8 → Fin 1024 → Fin 5632 → EReal) (s : Fin 8 → Fin 5632 → EReal)

open Classical in
/-- The value at a row and a column of the whole result. -/
def hrow (R : Fin 8192) (j : Fin 2816) : EReal :=
  if h : ∃ e : Fin 8, bnd n e.val ≤ R.val ∧ R.val < bnd n (e.val + 1) then value (x R) (w h.choose) (s h.choose) j else 0

/-- A row lies in one group at most. -/
theorem group_unique {R : ℕ} {e e' : ℕ} (h : bnd n e ≤ R ∧ R < bnd n (e + 1)) (h' : bnd n e' ≤ R ∧ R < bnd n (e' + 1)) : e = e' := by
  rcases lt_trichotomy e e' with h1 | h1 | h1
  · have : bnd n (e + 1) ≤ bnd n e' := bnd_mono n (by omega)
    omega
  · exact h1
  · have : bnd n (e' + 1) ≤ bnd n e := bnd_mono n (by omega)
    omega

/-- A row of group `e`. -/
theorem hrow_mem (R : Fin 8192) (e : Fin 8) (h : bnd n e.val ≤ R.val ∧ R.val < bnd n (e.val + 1)) (j : Fin 2816) :
    hrow n x w s R j = value (x R) (w e) (s e) j := by
  have hex : ∃ e : Fin 8, bnd n e.val ≤ R.val ∧ R.val < bnd n (e.val + 1) := ⟨e, h⟩
  have he : hex.choose = e := Fin.ext (group_unique n hex.choose_spec h)
  unfold hrow
  rw [dif_pos hex, he]

/-- A row of no group. -/
theorem hrow_none (R : Fin 8192) (h : ∀ e : Fin 8, ¬ (bnd n e.val ≤ R.val ∧ R.val < bnd n (e.val + 1))) (j : Fin 2816) :
    hrow n x w s R j = 0 := by
  unfold hrow
  rw [dif_neg (by rintro ⟨e, he⟩; exact h e he)]

/-- A row after every group. -/
theorem hrow_after (R : Fin 8192) (h : bnd n 8 ≤ R.val) (j : Fin 2816) : hrow n x w s R j = 0 := by
  refine hrow_none n x w s R (fun e he => ?_) j
  have : bnd n (e.val + 1) ≤ bnd n 8 := bnd_mono n (by omega)
  omega

/-- The row of the whole that is row `r` of visit `v`'s block. -/
abbrev rowOf (v : ℕ) (r : Fin 256) : Fin 8192 := ⟨256 * tile n v + r.val, by have := tile_lt n v; omega⟩

/-- What a block's row holds after visit `v`: its value when the visits have come past it, zero before. -/
def state (v : ℕ) (r : Fin 256) (j : Fin 2816) : EReal :=
  if 256 * tile n v + r.val < bnd n (grp n v + 1) then hrow n x w s (rowOf n v r) j else 0

/-- A visit with work takes the state of the visit before to its own: its own rows get their values, and the others keep theirs
    unless the block is a new one. -/
theorem state_step {v : ℕ} (hv : v < total n) (prev : EReal) (r : Fin 256) (j : Fin 2816)
    (hp : ¬ (v = 0 ∨ tile n v ≠ tile n (v - 1)) → prev = state n x w s (v - 1) r j) :
    (if lo n (grp n v) ≤ 256 * tile n v + r.val ∧ 256 * tile n v + r.val < hi n (grp n v)
      then value (x (rowOf n v r)) (w ⟨expert n v, expert_lt n v⟩) (s ⟨expert n v, expert_lt n v⟩) j
      else if v = 0 ∨ tile n v ≠ tile n (v - 1) then 0 else prev) = state n x w s v r j := by
  have hg := grp_lt n v
  have hT := tile_lt n v
  have h9 := bnd_nine n
  have hR : (rowOf n v r).val = 256 * tile n v + r.val := rfl
  -- a new block starts no earlier than the group does
  have hnew : (v = 0 ∨ tile n v ≠ tile n (v - 1)) → bnd n (grp n v) ≤ 256 * tile n v := by
    rintro h
    by_cases h0 : v = 0
    · subst h0; rw [(first n).1]; exact Nat.zero_le _
    · obtain ⟨u, rfl⟩ := Nat.exists_eq_succ_of_ne_zero h0
      have h1 : tile n (u + 1) ≠ tile n u := by
        rcases h with h | h
        · omega
        · exact h
      exact (step_next n hv h1).2.2
  -- an old block's earlier visits end where the group starts
  have hold : ¬ (v = 0 ∨ tile n v ≠ tile n (v - 1)) →
      prev = if 256 * tile n v + r.val < bnd n (grp n v) then hrow n x w s (rowOf n v r) j else 0 := by
    intro h
    rw [hp h]
    rw [not_or, not_not] at h
    obtain ⟨u, rfl⟩ := Nat.exists_eq_succ_of_ne_zero h.1
    have h1 : tile n (u + 1) = tile n u := h.2
    have h2 := step_same n hv h1
    have h3 : rowOf n u r = rowOf n (u + 1) r := Fin.ext (by show 256 * tile n u + r.val = 256 * tile n (u + 1) + r.val; rw [h1])
    show state n x w s u r j = _
    unfold state
    rw [h3, ← h2, ← h1]
  unfold state
  by_cases h8 : grp n v < 8
  · have hex : expert n v = grp n v := by unfold expert; omega
    rw [lo, hi, if_pos h8, if_pos h8]
    by_cases hm : bnd n (grp n v) ≤ 256 * tile n v + r.val ∧ 256 * tile n v + r.val < bnd n (grp n v + 1)
    · rw [if_pos hm, if_pos hm.2]
      exact (hrow_mem n x w s (rowOf n v r) ⟨expert n v, expert_lt n v⟩ (by simp only [hex]; exact hm) j).symm
    · rw [if_neg hm]
      have hs := bnd_succ n (grp n v)
      by_cases hf : v = 0 ∨ tile n v ≠ tile n (v - 1)
      · have := hnew hf
        rw [if_pos hf, if_neg (by omega)]
      · rw [if_neg hf, hold hf]
        by_cases hb : 256 * tile n v + r.val < bnd n (grp n v)
        · rw [if_pos hb, if_pos (by omega)]
        · rw [if_neg hb, if_neg (by omega)]
  · have hg8 : grp n v = 8 := by omega
    rw [lo, hi, if_neg h8, if_neg h8, if_neg (show ¬ (0 ≤ 256 * tile n v + r.val ∧ 256 * tile n v + r.val < 0) by omega), hg8, h9,
      if_pos (show 256 * tile n v + r.val < 8192 by omega)]
    by_cases hf : v = 0 ∨ tile n v ≠ tile n (v - 1)
    · have h1 := hnew hf
      rw [hg8] at h1
      rw [if_pos hf, hrow_after n x w s _ (by rw [hR]; omega)]
    · rw [if_neg hf, hold hf, hg8]
      by_cases hb : 256 * tile n v + r.val < bnd n 8
      · rw [if_pos hb]
      · rw [if_neg hb, hrow_after n x w s _ (by rw [hR]; omega)]

/-- A padding visit has the state of the visit before. -/
theorem state_stay {v : ℕ} (hv : total n ≤ v + 1) (r : Fin 256) (j : Fin 2816) : state n x w s (v + 1) r j = state n x w s v r j := by
  have hg := total_ge n
  have e : vis n (v + 1) = vis n v := by unfold vis; omega
  have h1 : grp n (v + 1) = grp n v := by rw [(tile_vis n (v + 1)).2, (tile_vis n v).2, e]
  have h2 : tile n (v + 1) = tile n v := tile_stay n hv
  have h3 : rowOf n (v + 1) r = rowOf n v r := Fin.ext (by show 256 * tile n (v + 1) + r.val = 256 * tile n v + r.val; rw [h2])
  unfold state
  rw [h1, h2, h3]

/-- At a block's last visit all its rows have their values. -/
theorem state_done {v : ℕ} (hv : v < 40) (h : v = 39 ∨ tile n (v + 1) ≠ tile n v) (r : Fin 256) (j : Fin 2816) :
    state n x w s v r j = hrow n x w s (rowOf n v r) j := by
  have := done n hv h
  unfold state
  rw [if_pos (by omega)]

end Rows

end Cert.Spec
-- ==== Proof.Found.lean ====
module

public import proofs.«01_k».proof.Proof.Adm
public import proofs.«01_k».proof.Proof.VisitValue
public import proofs.«01_k».proof.Proof.Full
public import Idealize.ShloMosaic.Lib.Pointwise.IndexBridge

@[expose] public section

/-! What a visit finds: the table's words, the block of rows and the expert's weights. -/

set_option maxRecDepth 16384

noncomputable section

namespace Cert.KernelIdeal.Found

open Cert.KernelIdeal.Gen Cert.KernelIdeal.Body Cert.KernelIdeal.Run Cert.KernelIdeal.Visit Cert.KernelIdeal.Adm Cert.KernelIdeal.Table
open Idealize.ShloMosaic
open Idealize.ShloMosaic.TcCoe Idealize.SL Idealize.SL.Sem
open Idealize.ShloMosaic.Pipeline (arrRef)

variable (a : (pcfg0 (F := Ideal)).Adm)

/-- A visit's number is its grid point's coordinate. -/
theorem coord (t : Fin (cfg0 a).N) : (((cfg0 a).grid.coords t) 0).val = t.val := by
  have : ∀ t : Fin grid0.N, ((grid0.coords t) 0).val = t.val := by decide +kernel
  exact this t

theorem off3_eq (i : grid0.Coords) : k0_off3 i = ![(2 : Fin 6).val, (i 0).val] := by
  exact congrArg (fun k => ![2, k]) (idx_toNat _ (i 0).isLt)
theorem off4_eq (i : grid0.Coords) : k0_off4 i = ![(3 : Fin 6).val, (i 0).val] := by
  exact congrArg (fun k => ![3, k]) (idx_toNat _ (i 0).isLt)
theorem off5_eq (i : grid0.Coords) : k0_off5 i = ![(4 : Fin 6).val, (i 0).val] := by
  exact congrArg (fun k => ![4, k]) (idx_toNat _ (i 0).isLt)
theorem off6_eq (i : grid0.Coords) : k0_off6 i = ![(5 : Fin 6).val, (i 0).val] := by
  exact congrArg (fun k => ![5, k]) (idx_toNat _ (i 0).isLt)

/-- The table holds the words of the plan for group sizes `n`. -/
def Holds (n : ℕ → ℕ) : Prop := ∀ (k : Fin 6) (v : Fin 40), ((tab a) (ValueIdx.ix2 k v)).toNat = entry n v.val k

/-- The table of group sizes in range does. -/
theorem holds_adm (gs : IVec S8 32) (hle : ∀ e : Fin 8, (gs (ValueIdx.ix1 e)).toNat ≤ 8192) : Holds (adm (F := Ideal) gs hle) (num gs) :=
  fun k v => word_toNat (fun e he => by unfold num; rw [dif_pos he]; exact hle ⟨e, he⟩) (num_word gs) k v

variable {a} {n : ℕ → ℕ} (ha : Holds a n)

include ha

/-- A word of the table at a place of row `r` and a visit's column. -/
theorem at_word (r : Fin 6) (t : Fin (cfg0 a).N) (off : Fin 2 → ℕ) (inb) (hoff : off = ![r.val, (((cfg0 a).grid.coords t) 0).val]) (z : S1x1.Idx) :
    (tab a ((Rect.unit (s := S6x40) off S1x1.size inb).emb z)).toNat = entry n t.val r := by
  rw [emb_word r (vis ((cfg0 a).grid.coords t)) off inb hoff, ha]
  exact congrArg (fun v => entry n v r) (coord a t)

/-- A word the body loads from the table. -/
theorem word_eq (r : Fin 6) (t : Fin (cfg0 a).N) (off : Fin 2 → ℕ) (inb) (hoff : off = ![r.val, (((cfg0 a).grid.coords t) 0).val]) :
    (word (F := Ideal) (Memref.whole main_v80) (Memref.isWhole_whole _) (tab a) off inb).toNat = entry n t.val r := by
  unfold word
  rw [Memref.IsWhole.readAt_unread]
  exact at_word ha r t off inb hoff _

omit ha in
theorem cond_iff (w : BitVec 32) : k0_cond1 w = 1#1 ↔ w.toNat ≠ 0 := by
  have hz : w.toNat = 0 ↔ w = 0#32 := ⟨fun h => BitVec.eq_of_toNat_eq h, fun h => by rw [h]; rfl⟩
  rw [ne_eq, hz]
  by_cases h : w = 0#32
  · subst h; simp [show k0_cond1 0#32 = 0#1 from rfl]
  · have e : Scalar.cmpi .ne w 0#32 = 1#1 := by
      show IntOp.cmpi .ne w 0#32 = 1#1
      rw [IntOp.cmpi_ne]; exact h
    have : k0_cond1 w = 1#1 := by
      show Scalar.cmpi .ne (Scalar.extui (Scalar.cmpi .ne w 0#32)) 0#32 = 1#1
      rw [e]; rfl
    simp [h, this]

/-- A visit has work when it comes before the last of them. -/
theorem valid_iff (t : Fin (cfg0 a).N) : valid a t ↔ t.val < Plan.total n := by
  have hw := word_eq ha 5 t _ (k0_off6_inb _) (off6_eq _)
  have e : validWord (F := Ideal) ((cfg0 a).grid.coords t) (Memref.whole main_v80) (Memref.isWhole_whole _) (tab a)
      = word (F := Ideal) (Memref.whole main_v80) (Memref.isWhole_whole _) (tab a) (k0_off6 ((cfg0 a).grid.coords t)) (k0_off6_inb _) := by
    unfold validWord word; rfl
  show k0_cond1 (validWord (F := Ideal) ((cfg0 a).grid.coords t) (Memref.whole main_v80) (Memref.isWhole_whole _) (tab a)) = 1#1 ↔ _
  rw [e, cond_iff, hw]
  simp only [entry]
  by_cases h : t.val < Plan.total n <;> simp only [h, if_true, if_false] <;> simp

/-- Which block of `x` a step reads. -/
theorem index0 (t : Fin (cfg0 a).N) : ((cfg0 a).win 0).index t = ![Plan.tile n t.val, 0] :=
  congrArg (fun k => ![k, 0]) (at_word ha 0 t (k0_off1 _) (k0_off1_inb _) (off1_eq _) (Shape.Idx.first (numel1_S1x1.symm ▸ Nat.one_pos)))
/-- Which expert's weights a step reads. -/
theorem index1 (t : Fin (cfg0 a).N) : ((cfg0 a).win 1).index t = ![Plan.expert n t.val, 0, 0] :=
  congrArg (fun k => ![k, 0, 0]) (at_word ha 1 t (k0_off2 _) (k0_off2_inb _) (off2_eq _) (Shape.Idx.first (numel1_S1x1.symm ▸ Nat.one_pos)))
/-- Which expert's scales a step reads. -/
theorem index2 (t : Fin (cfg0 a).N) : ((cfg0 a).win 2).index t = ![Plan.expert n t.val, 0, 0] :=
  congrArg (fun k => ![k, 0, 0]) (at_word ha 1 t (k0_off2 _) (k0_off2_inb _) (off2_eq _) (Shape.Idx.first (numel1_S1x1.symm ▸ Nat.one_pos)))
/-- Which block of the codes a step writes. -/
theorem index3 (t : Fin (cfg0 a).N) : ((cfg0 a).win 3).index t = ![Plan.tile n t.val, 0] :=
  congrArg (fun k => ![k, 0]) (at_word ha 0 t (k0_off1 _) (k0_off1_inb _) (off1_eq _) (Shape.Idx.first (numel1_S1x1.symm ▸ Nat.one_pos)))
/-- Which block of the scales a step writes. -/
theorem index4 (t : Fin (cfg0 a).N) : ((cfg0 a).win 4).index t = ![Plan.tile n t.val, 0] :=
  congrArg (fun k => ![k, 0]) (at_word ha 0 t (k0_off1 _) (k0_off1_inb _) (off1_eq _) (Shape.Idx.first (numel1_S1x1.symm ▸ Nat.one_pos)))

variable (V : (c : Dev nD) → (b : Ref sig .tc) → Buf (Elt Ideal) ((c : Thread nD τ).loc b)) (c : Dev nD)

omit ha in
/-- The rows. -/
def xs (R : Fin 8192) (k : Fin 1024) : EReal := (V c main_arg0 : Vec Ideal S8192x1024 .bf16) (ix2 R k)
/-- The weights. -/
def ws (e : Fin 8) (k : Fin 1024) (j : Fin 5632) : EReal := (V c main_arg2 : Vec Ideal S8x1024x5632 .fp8e4m3) (ix3 e k j)
/-- The weights' scales. -/
def ss (e : Fin 8) (j : Fin 5632) : EReal := (V c main_v81 : Vec Ideal S8x1x5632 .f32) (ix3 e 0 j)

/-- The rows a visit finds. -/
theorem x_apply (t : Fin (cfg0 a).N) (r : Fin 256) (k : Fin 1024) :
    xB a V c t (ix2 r k) = xs V c (Spec.rowOf n t.val r) k := by
  have hi := index0 ha t
  refine congrArg (V c main_arg0 : Vec Ideal S8192x1024 .bf16) (?_ : ((((cfg0 a).win 0).rect t).emb (ix2 r k) : S8192x1024.Idx) = ix2 (Spec.rowOf n t.val r) k)
  funext (b : Fin 2)
  apply Fin.ext
  refine (Rect.emb_apply ..).trans ?_
  match b with
  | 0 =>
    show ((cfg0 a).win 0).index t (0 : Fin 2) * 256 + 1 * r.val = _
    rw [hi]; show Plan.tile n t.val * 256 + 1 * r.val = 256 * Plan.tile n t.val + r.val; omega
  | 1 =>
    show ((cfg0 a).win 0).index t (1 : Fin 2) * 1024 + 1 * k.val = _
    rw [hi]; show 0 * 1024 + 1 * k.val = k.val; omega

/-- The weights a visit finds. -/
theorem w_apply (t : Fin (cfg0 a).N) (k : Fin 1024) (j : Fin 5632) :
    wB a V c t (ix3 0 k j) = ws V c ⟨Plan.expert n t.val, Plan.expert_lt _ _⟩ k j := by
  have hi := index1 ha t
  refine congrArg (V c main_arg2 : Vec Ideal S8x1024x5632 .fp8e4m3) (?_ : ((((cfg0 a).win 1).rect t).emb (ix3 0 k j) : S8x1024x5632.Idx) = ix3 ⟨Plan.expert n t.val, Plan.expert_lt _ _⟩ k j)
  funext (b : Fin 3)
  apply Fin.ext
  refine (Rect.emb_apply ..).trans ?_
  match b with
  | 0 =>
    show ((cfg0 a).win 1).index t (0 : Fin 3) * 1 + 1 * 0 = _
    rw [hi]; show Plan.expert n t.val * 1 + 1 * 0 = Plan.expert n t.val; omega
  | 1 =>
    show ((cfg0 a).win 1).index t (1 : Fin 3) * 1024 + 1 * k.val = _
    rw [hi]; show 0 * 1024 + 1 * k.val = k.val; omega
  | 2 =>
    show ((cfg0 a).win 1).index t (2 : Fin 3) * 5632 + 1 * j.val = _
    rw [hi]; show 0 * 5632 + 1 * j.val = j.val; omega

/-- The scales a visit finds. -/
theorem s_apply (t : Fin (cfg0 a).N) (j : Fin 5632) :
    sB a V c t (ix3 0 0 j) = ss V c ⟨Plan.expert n t.val, Plan.expert_lt _ _⟩ j := by
  have hi := index2 ha t
  refine congrArg (V c main_v81 : Vec Ideal S8x1x5632 .f32) (?_ : ((((cfg0 a).win 2).rect t).emb (ix3 0 0 j) : S8x1x5632.Idx) = ix3 ⟨Plan.expert n t.val, Plan.expert_lt _ _⟩ 0 j)
  funext (b : Fin 3)
  apply Fin.ext
  refine (Rect.emb_apply ..).trans ?_
  match b with
  | 0 =>
    show ((cfg0 a).win 2).index t (0 : Fin 3) * 1 + 1 * 0 = _
    rw [hi]; show Plan.expert n t.val * 1 + 1 * 0 = Plan.expert n t.val; omega
  | 1 =>
    show ((cfg0 a).win 2).index t (1 : Fin 3) * 1 + 1 * 0 = _
    rw [hi]; show 0 * 1 + 1 * 0 = 0; omega
  | 2 =>
    show ((cfg0 a).win 2).index t (2 : Fin 3) * 5632 + 1 * j.val = _
    rw [hi]; show 0 * 5632 + 1 * j.val = j.val; omega

end Cert.KernelIdeal.Found
-- ==== Proof.Result.lean ====
module

public import proofs.«01_k».proof.Proof.Found
public import Idealize.ShloMosaic.Lib.Pipeline.TableIdle
public import Idealize.ShloMosaic.Lib.Pipeline.ArrRel
public import Idealize.ShloMosaic.Lib.Pipeline.ValueKit.Geometry

@[expose] public section

/-! What the visits leave: in the scratch buffer, visit by visit, the block's rows so far (`reach_state`); in the results' blocks
their codes and scales. -/

set_option maxRecDepth 16384

noncomputable section

namespace Cert.KernelIdeal.Result

open Cert.KernelIdeal.Gen Cert.KernelIdeal.Body Cert.KernelIdeal.Run Cert.KernelIdeal.Visit Cert.KernelIdeal.Table Cert.KernelIdeal.Found
open Idealize.ShloMosaic
open Idealize.ShloMosaic.TcCoe Idealize.SL Idealize.SL.Sem
open Cert.Spec (state rowScale code hrow)

variable {a : (pcfg0 (F := Ideal)).Adm} {n : ℕ → ℕ} (ha : Holds a n)
variable (V : (c : Dev nD) → (b : Ref sig .tc) → Buf (Elt Ideal) ((c : Thread nD τ).loc b)) (c : Dev nD)

include ha

/-- A visit's own rows are those between its group's bounds. -/
theorem mine_visit (t : Fin (cfg0 a).N) (r : Fin 256) :
    mine (F := Ideal) ((cfg0 a).grid.coords t) (Memref.whole main_v80) (Memref.isWhole_whole _) (tab a) (ix2 r 0) = 1#1
      ↔ Spec.lo n (Plan.grp n t.val) ≤ 256 * Plan.tile n t.val + r.val ∧ 256 * Plan.tile n t.val + r.val < Spec.hi n (Plan.grp n t.val) := by
  have w0 := word_eq ha 0 t (k0_off1 _) (k0_off1_inb _) (Adm.off1_eq _)
  have w2 := word_eq ha 2 t (k0_off3 _) (k0_off3_inb _) (off3_eq _)
  have w3 := word_eq ha 3 t (k0_off4 _) (k0_off4_inb _) (off4_eq _)
  simp only [entry] at w0 w2 w3
  have l2 := Plan.bnd_le n (Plan.grp n t.val)
  have l3 := Plan.bnd_le n (Plan.grp n t.val + 1)
  unfold mine
  rw [VisitValue.mine_iff _ _ _ (by rw [w0]; exact Plan.tile_lt n _) (by rw [w2]; split <;> omega) (by rw [w3]; split <;> omega), w0, w2, w3]
  rfl

/-- A visit keeps the rows of the scratch buffer that earlier visits of the block made. -/
theorem keep_visit (t : Fin (cfg0 a).N) (r : Fin 256)
    (hm : ¬ mine (F := Ideal) ((cfg0 a).grid.coords t) (Memref.whole main_v80) (Memref.isWhole_whole _) (tab a) (ix2 r 0) = 1#1) :
    keep (F := Ideal) ((cfg0 a).grid.coords t) (Memref.whole main_v80) (Memref.isWhole_whole _) (tab a) (ix2 r 0) = 1#1
      ↔ ¬ (t.val = 0 ∨ Plan.tile n t.val ≠ Plan.tile n (t.val - 1)) := by
  have w4 := word_eq ha 4 t (k0_off5 ((cfg0 a).grid.coords t)) (k0_off5_inb _) (off5_eq _)
  unfold keep
  rw [VisitValue.keep_iff]
  refine (and_iff_right hm).trans ?_
  generalize word (F := Ideal) (Memref.whole main_v80) (Memref.isWhole_whole _) (tab a) (k0_off5 ((cfg0 a).grid.coords t)) (k0_off5_inb _) = x at w4 ⊢
  rw [← BitVec.toNat_inj, w4]
  simp only [entry]
  by_cases h : t.val = 0 ∨ Plan.tile n t.val ≠ Plan.tile n (t.val - 1)
  · simp [h]
  · rw [if_neg h]
    simp only [h]
    simp

/-- A visit with work, on a scratch buffer as the visit before left it, computes its own state. -/
theorem row_visit (t : Fin (cfg0 a).N) (hv : t.val < Plan.total n) (h : Vec Ideal S256x2816 .f32)
    (hp : ∀ r j, ¬ (t.val = 0 ∨ Plan.tile n t.val ≠ Plan.tile n (t.val - 1)) → h (ix2 r j) = state n (xs V c) (ws V c) (ss V c) (t.val - 1) r j)
    (r : Fin 256) (j : Fin 2816) :
    VisitValue.row ((cfg0 a).grid.coords t) (Memref.whole main_v80) (Memref.isWhole_whole _) (tab a) (xB a V c t) (wB a V c t) (sB a V c t) h r j
      = state n (xs V c) (ws V c) (ss V c) t.val r j := by
  rw [← Spec.state_step n (xs V c) (ws V c) (ss V c) hv (h (ix2 r j)) r j (hp r j)]
  unfold VisitValue.row Scalar.select
  simp only [x_apply ha, w_apply ha, s_apply ha]
  by_cases hm : mine (F := Ideal) ((cfg0 a).grid.coords t) (Memref.whole main_v80) (Memref.isWhole_whole _) (tab a) (ix2 r 0) = 1#1
  · have hm' := (mine_visit ha t r).1 hm
    rw [if_pos hm']
    exact if_pos hm
  · have hm' := fun q => hm ((mine_visit ha t r).2 q)
    have hk := keep_visit ha t r hm
    rw [if_neg hm']
    refine (if_neg hm).trans ?_
    by_cases hf : t.val = 0 ∨ Plan.tile n t.val ≠ Plan.tile n (t.val - 1)
    · rw [if_pos hf]
      exact if_neg fun q => hk.1 q hf
    · rw [if_neg hf]
      exact if_pos (hk.2 hf)

/-- What the scratch buffer holds after visit `k`. -/
theorem reach_state (k : ℕ) : ∀ h, Reach a V c (k + 1) h → ∀ (r : Fin 256) (j : Fin 2816), h (ix2 r j) = state n (xs V c) (ws V c) (ss V c) k r j := by
  induction k with
  | zero =>
    intro h hr r j
    have hN : 0 < (cfg0 a).N := by show 0 < grid0.N; decide
    have hg := Plan.total_ge n
    unfold Reach at hr
    rw [dif_pos hN] at hr
    rcases hr with ⟨hv, h0, -, rfl⟩ | ⟨hv, -⟩
    · unfold hOut
      refine (VisitValue.scratch_apply _ _ _ _ _ _ _ _ _ _ _ _ _ _ _ _ _ _ _ _ _ _ _ _ (cover7 ..)).trans ?_
      exact row_visit ha V c ⟨0, hN⟩ ((valid_iff ha _).1 hv) h0 (fun r j hf => absurd (Or.inl rfl) hf) r j
    · exact absurd ((valid_iff ha _).2 (show 0 < Plan.total n by omega)) hv
  | succ k ih =>
    intro h hr r j
    unfold Reach at hr
    split at hr
    · rename_i hN
      rcases hr with ⟨hv, h0, hr0, rfl⟩ | ⟨hv, hr0⟩
      · unfold hOut
        refine (VisitValue.scratch_apply _ _ _ _ _ _ _ _ _ _ _ _ _ _ _ _ _ _ _ _ _ _ _ _ (cover7 ..)).trans ?_
        exact row_visit ha V c ⟨k + 1, hN⟩ ((valid_iff ha _).1 hv) h0 (fun r j _ => ih h0 hr0 r j) r j
      · have hv' : Plan.total n ≤ k + 1 := not_lt.1 fun q => hv ((valid_iff ha ⟨k + 1, hN⟩).2 q)
        rw [ih h hr0 r j, Spec.state_stay n _ _ _ hv']
    · exact hr.elim

/-- What the scratch buffer holds before a visit, as far as the visit reads it. -/
theorem reach_prev (t : Fin (cfg0 a).N) (h) (hr : Reach a V c t.val h) (r : Fin 256) (j : Fin 2816)
    (hf : ¬ (t.val = 0 ∨ Plan.tile n t.val ≠ Plan.tile n (t.val - 1))) : h (ix2 r j) = state n (xs V c) (ws V c) (ss V c) (t.val - 1) r j := by
  have h0 : t.val ≠ 0 := fun q => hf (Or.inl q)
  refine reach_state ha V c (t.val - 1) h ?_ r j
  rw [Nat.sub_add_cancel (Nat.pos_of_ne_zero h0)]
  exact hr

/-- The codes a visit with work leaves. -/
theorem codes_visit (t : Fin (cfg0 a).N) (hv : valid a t) (h) (hr : Reach a V c t.val h) (r : Fin 256) (j : Fin 2816) :
    codesOut a V c t h (ix2 r j) = code (rowScale (state n (xs V c) (ws V c) (ss V c) t.val r)) (state n (xs V c) (ws V c) (ss V c) t.val r j) := by
  have e : VisitValue.row ((cfg0 a).grid.coords t) (Memref.whole main_v80) (Memref.isWhole_whole _) (tab a) (xB a V c t) (wB a V c t) (sB a V c t) h r
      = state n (xs V c) (ws V c) (ss V c) t.val r :=
    funext fun j => row_visit ha V c t ((valid_iff ha t).1 hv) h (reach_prev ha V c t h hr) r j
  unfold codesOut
  refine (VisitValue.out_codes_apply _ _ _ _ _ _ _ _ _ _ _ _ _ _ _ _ _ _ _ _ _ _ _ _ _ (fun y => cover7 ..) (cover5 ..)).trans ?_
  rw [e]

/-- The scales it leaves. -/
theorem scale_visit (t : Fin (cfg0 a).N) (hv : valid a t) (h) (hr : Reach a V c t.val h) (r : Fin 256) :
    scaleOut a V c t h (ix2 r 0) = rowScale (state n (xs V c) (ws V c) (ss V c) t.val r) := by
  have e : VisitValue.row ((cfg0 a).grid.coords t) (Memref.whole main_v80) (Memref.isWhole_whole _) (tab a) (xB a V c t) (wB a V c t) (sB a V c t) h r
      = state n (xs V c) (ws V c) (ss V c) t.val r :=
    funext fun j => row_visit ha V c t ((valid_iff ha t).1 hv) h (reach_prev ha V c t h hr) r j
  unfold scaleOut
  refine (VisitValue.scale_apply _ _ _ _ _ _ _ _ _ _ _ _ _ _ _ _ _ _ _ _ _ _ _ _ (cover6 ..)).trans ?_
  rw [e]

/-- A padding visit follows another visit, whose blocks are its own and stay. -/
theorem padding (t : Fin (cfg0 a).N) (hv : ¬ valid a t) : t.val ≠ 0 ∧ Plan.total n ≤ t.val - 1 + 1 := by
  have hg := Plan.total_ge n
  have := not_lt.1 fun q => hv ((valid_iff ha t).2 q)
  omega

/-- Steps after the last visit write no codes back. -/
theorem no_flush3 (t : Fin (cfg0 a).N) (h : Plan.total n ≤ t.val + 1) (hN : t.val + 1 < (cfg0 a).N) : ((cfg0 a).win 3).flush t = false := by
  rw [Pipeline.Window.flush_eq_flushF]
  unfold Pipeline.Window.flushF
  have e : ((cfg0 a).win 3).index ⟨t.val + 1, hN⟩ = ((cfg0 a).win 3).index t := by
    rw [index3 ha, index3 ha, Plan.tile_stay n h]
  have hN' : ¬ t.val + 1 = (cfg0 a).grid.N := by have : (cfg0 a).N = (cfg0 a).grid.N := rfl; omega
  simp only [hN', e]
  simp

/-- Steps after the last visit write no scales back. -/
theorem no_flush4 (t : Fin (cfg0 a).N) (h : Plan.total n ≤ t.val + 1) (hN : t.val + 1 < (cfg0 a).N) : ((cfg0 a).win 4).flush t = false := by
  rw [Pipeline.Window.flush_eq_flushF]
  unfold Pipeline.Window.flushF
  have e : ((cfg0 a).win 4).index ⟨t.val + 1, hN⟩ = ((cfg0 a).win 4).index t := by
    rw [index4 ha, index4 ha, Plan.tile_stay n h]
  have hN' : ¬ t.val + 1 = (cfg0 a).grid.N := by have : (cfg0 a).N = (cfg0 a).grid.N := rfl; omega
  simp only [hN', e]
  simp

/-- What the codes' block holds after visit `k`. -/
theorem leaves3 (k : ℕ) : ∀ (hk : k < (cfg0 a).N) (X), (rdat a V c).Leaves 3 ⟨k, hk⟩ X → ∀ (r : Fin 256) (j : Fin 2816),
    (X : Vec Ideal S256x2816 .fp8e4m3) (ix2 r j) = code (rowScale (state n (xs V c) (ws V c) (ss V c) k r)) (state n (xs V c) (ws V c) (ss V c) k r j) := by
  induction k with
  | zero =>
    intro hk X hX r j
    obtain ⟨Y, hY, hX⟩ := hX
    rcases (show (valid a ⟨0, hk⟩ ∧ ∃ h, Reach a V c 0 h ∧ X = codesOut a V c ⟨0, hk⟩ h) ∨ (¬ valid a ⟨0, hk⟩ ∧ X = Y) from hX) with ⟨hv, h, hr, rfl⟩ | ⟨hv, -⟩
    · exact codes_visit ha V c ⟨0, hk⟩ hv h hr r j
    · exact absurd rfl (padding ha _ hv).1
  | succ k ih =>
    intro hk X hX r j
    obtain ⟨Y, hY, hX⟩ := hX
    rcases (show (valid a ⟨k + 1, hk⟩ ∧ ∃ h, Reach a V c (k + 1) h ∧ X = codesOut a V c ⟨k + 1, hk⟩ h) ∨ (¬ valid a ⟨k + 1, hk⟩ ∧ X = Y) from hX) with ⟨hv, h, hr, rfl⟩ | ⟨hv, rfl⟩
    · exact codes_visit ha V c ⟨k + 1, hk⟩ hv h hr r j
    · have hp : Plan.total n ≤ k + 1 := (padding ha _ hv).2
      have hk' : k < (cfg0 a).N := by omega
      rw [(rdat a V c).finds_of_pos (w := 3) rfl (Nat.succ_ne_zero k)] at hY
      rcases hY with hY | hY
      · exact absurd hY (by rw [show (⟨(⟨k + 1, hk⟩ : Fin (cfg0 a).N).val - 1, _⟩ : Fin (cfg0 a).N) = ⟨k, hk'⟩ from rfl, no_flush3 ha ⟨k, hk'⟩ hp hk]; simp)
      · have := ih hk' X hY r j
        rw [this]
        simp only [funext (Spec.state_stay n (xs V c) (ws V c) (ss V c) hp r)]
        rfl

/-- What the scales' block holds after visit `k`. -/
theorem leaves4 (k : ℕ) : ∀ (hk : k < (cfg0 a).N) (X), (rdat a V c).Leaves 4 ⟨k, hk⟩ X → ∀ (r : Fin 256),
    (X : Vec Ideal S256x1 .f32) (ix2 r 0) = rowScale (state n (xs V c) (ws V c) (ss V c) k r) := by
  induction k with
  | zero =>
    intro hk X hX r
    obtain ⟨Y, hY, hX⟩ := hX
    rcases (show (valid a ⟨0, hk⟩ ∧ ∃ h, Reach a V c 0 h ∧ X = scaleOut a V c ⟨0, hk⟩ h) ∨ (¬ valid a ⟨0, hk⟩ ∧ X = Y) from hX) with ⟨hv, h, hr, rfl⟩ | ⟨hv, -⟩
    · exact scale_visit ha V c ⟨0, hk⟩ hv h hr r
    · exact absurd rfl (padding ha _ hv).1
  | succ k ih =>
    intro hk X hX r
    obtain ⟨Y, hY, hX⟩ := hX
    rcases (show (valid a ⟨k + 1, hk⟩ ∧ ∃ h, Reach a V c (k + 1) h ∧ X = scaleOut a V c ⟨k + 1, hk⟩ h) ∨ (¬ valid a ⟨k + 1, hk⟩ ∧ X = Y) from hX) with ⟨hv, h, hr, rfl⟩ | ⟨hv, rfl⟩
    · exact scale_visit ha V c ⟨k + 1, hk⟩ hv h hr r
    · have hp : Plan.total n ≤ k + 1 := (padding ha _ hv).2
      have hk' : k < (cfg0 a).N := by omega
      rw [(rdat a V c).finds_of_pos (w := 4) rfl (Nat.succ_ne_zero k)] at hY
      rcases hY with hY | hY
      · exact absurd hY (by rw [show (⟨(⟨k + 1, hk⟩ : Fin (cfg0 a).N).val - 1, _⟩ : Fin (cfg0 a).N) = ⟨k, hk'⟩ from rfl, no_flush4 ha ⟨k, hk'⟩ hp hk]; simp)
      · have := ih hk' X hY r
        rw [this]
        simp only [funext (Spec.state_stay n (xs V c) (ws V c) (ss V c) hp r)]
        rfl

end Cert.KernelIdeal.Result
-- ==== Proof.Arrays.lean ====
module

public import proofs.«01_k».proof.Proof.Result

@[expose] public section

/-! What the two result arrays hold when the kernel has run: every row's codes and scale. -/

set_option maxRecDepth 16384

noncomputable section

namespace Cert.KernelIdeal.Arrays

open Cert.KernelIdeal.Gen Cert.KernelIdeal.Body Cert.KernelIdeal.Run Cert.KernelIdeal.Found Cert.KernelIdeal.Result
open Idealize.ShloMosaic
open Idealize.ShloMosaic.TcCoe Idealize.SL Idealize.SL.Sem
open Cert.Spec (state rowScale code hrow)
open Idealize.ShloMosaic.Pipeline (RDat Dat)

variable {a : (pcfg0 (F := Ideal)).Adm} {n : ℕ → ℕ} (ha : Holds a n)
variable (V : (c : Dev nD) → (b : Ref sig .tc) → Buf (Elt Ideal) ((c : Thread nD τ).loc b)) (c : Dev nD)

/-- All the codes. -/
def codes (n : ℕ → ℕ) : Vec Ideal S8192x2816 .fp8e4m3 := fun i =>
  code (rowScale (hrow n (xs V c) (ws V c) (ss V c) (i 0))) (hrow n (xs V c) (ws V c) (ss V c) (i 0) (i 1))
/-- All the scales. -/
def scales (n : ℕ → ℕ) : Vec Ideal S8192x1 .f32 := fun i => rowScale (hrow n (xs V c) (ws V c) (ss V c) (i 0))

include ha

/-- A block is written back at its last visit. -/
theorem flush3_iff (t : Fin (cfg0 a).N) : ((cfg0 a).win 3).flush t = true ↔ (t.val = 39 ∨ Plan.tile n (t.val + 1) ≠ Plan.tile n t.val) := by
  have hN : (cfg0 a).N = 40 := by show grid0.N = 40; decide
  have hN' : (cfg0 a).grid.N = 40 := hN
  have ho : ((cfg0 a).win 3).isOut = true := rfl
  rw [Pipeline.Window.flush_eq_flushF]
  unfold Pipeline.Window.flushF
  rw [ho, Bool.true_and, Bool.or_eq_true, decide_eq_true_iff, decide_eq_true_iff]
  constructor
  · rintro (h | ⟨h, b, hb⟩)
    · exact Or.inl (by omega)
    · refine Or.inr fun q => hb ?_
      rw [index3 ha, index3 ha]
      simp only [q]
  · rintro (h | h)
    · exact Or.inl (by omega)
    · by_cases h9 : t.val + 1 = 40
      · exact Or.inl (h9.trans hN'.symm)
      · have hlt : t.val + 1 < (cfg0 a).grid.N := by have := t.isLt; omega
        refine Or.inr ⟨hlt, (0 : Fin 2), ?_⟩
        rw [index3 ha, index3 ha]
        exact h

/-- A place of a visit's block in the whole array. -/
theorem emb3 (t : Fin (cfg0 a).N) (r : Fin 256) (j : Fin 2816) :
    ((((cfg0 a).win 3).rect t).emb (ix2 r j) : S8192x2816.Idx) = ix2 (Spec.rowOf n t.val r) j := by
  have hi := index3 ha t
  funext (b : Fin 2)
  apply Fin.ext
  refine (Rect.emb_apply ..).trans ?_
  match b with
  | 0 =>
    show ((cfg0 a).win 3).index t (0 : Fin 2) * 256 + 1 * r.val = _
    rw [hi]; show Plan.tile n t.val * 256 + 1 * r.val = 256 * Plan.tile n t.val + r.val; omega
  | 1 =>
    show ((cfg0 a).win 3).index t (1 : Fin 2) * 2816 + 1 * j.val = _
    rw [hi]; show 0 * 2816 + 1 * j.val = j.val; omega

/-- Every place of the array lies in a block that is written back. -/
theorem cover3 (i : S8192x2816.Idx) : ∃ t : Fin (cfg0 a).N, ((cfg0 a).win 3).flush t = true ∧ i ∈ (((cfg0 a).win 3).blk t).view.set := by
  have hN : (cfg0 a).N = 40 := by show grid0.N = 40; decide
  have hR : (i 0).val < 8192 := (i 0).isLt
  obtain ⟨v, hv, hT, hl⟩ := Plan.cover (n := n) (T := (i 0).val / 256) (by omega)
  have ht : v < (cfg0 a).N := by omega
  refine ⟨⟨v, ht⟩, (flush3_iff ha ⟨v, ht⟩).2 hl, ?_⟩
  have h1 : (i 1).val < 2816 := (i 1).isLt
  refine (Pipeline.Window.emb_mem_blk_iff ((cfg0 a).win 3) ⟨v, ht⟩ i).2 fun (b : Fin 2) => ?_
  rw [index3 ha]
  match b with
  | 0 =>
    show Plan.tile n v * 256 ≤ (i 0).val ∧ (i 0).val < Plan.tile n v * 256 + 256
    omega
  | 1 =>
    show 0 * 2816 ≤ (i 1).val ∧ (i 1).val < 0 * 2816 + 2816
    omega

/-- The array, its blocks holding at their last visits what the visits may leave. -/
theorem array3 (after : (w : Fin (cfg0 a).W) → Fin (cfg0 a).N → ((cfg0 a).win w).block.Idx → Elt Ideal ((cfg0 a).win w).elt)
    (hL : ∀ (w : Fin (cfg0 a).W) (u : Fin (cfg0 a).N), ((cfg0 a).win w).flush u = true → (rdat a V c).Leaves w u (after w u)) :
    ((rdat a V c).withAfter after).arrAt 3 (cfg0 a).N = codes V c n := by
  have hN : (cfg0 a).N = 40 := by show grid0.N = 40; decide
  refine Dat.arrAt_eq_of_cover ((rdat a V c).withAfter after) 3 (codes V c n) (fun t hf => ?_) (cover3 ha)
  have ht : t.val < 40 := lt_of_lt_of_eq t.isLt hN
  have key : ∀ y : S256x2816.Idx, (after 3 t : S256x2816.Idx → EReal) y = codes V c n ((((cfg0 a).win 3).rect t).emb y) := by
    intro y
    have hy : y = ix2 (y 0) (y 1) := by
      funext (b : Fin 2)
      match b with
      | 0 => rfl
      | 1 => rfl
    rw [show (codes V c n ((((cfg0 a).win 3).rect t).emb y) : EReal) = codes V c n (ix2 (Spec.rowOf n t.val (y 0)) (y 1)) from
      congrArg (codes V c n) ((congrArg (((cfg0 a).win 3).rect t).emb hy).trans (emb3 ha t (y 0) (y 1)))]
    refine (congrArg (after 3 t : S256x2816.Idx → EReal) hy).trans ?_
    refine (leaves3 ha V c t.val t.isLt _ (hL 3 t hf) (y 0) (y 1)).trans ?_
    have e : state n (xs V c) (ws V c) (ss V c) t.val (y 0) = hrow n (xs V c) (ws V c) (ss V c) (Spec.rowOf n t.val (y 0)) :=
      funext fun j => Spec.state_done n _ _ _ ht ((flush3_iff ha t).1 hf) (y 0) j
    rw [e]
    rfl
  exact funext fun y => key y

/-- A block is written back at its last visit. -/
theorem flush4_iff (t : Fin (cfg0 a).N) : ((cfg0 a).win 4).flush t = true ↔ (t.val = 39 ∨ Plan.tile n (t.val + 1) ≠ Plan.tile n t.val) := by
  have hN : (cfg0 a).N = 40 := by show grid0.N = 40; decide
  have hN' : (cfg0 a).grid.N = 40 := hN
  have ho : ((cfg0 a).win 4).isOut = true := rfl
  rw [Pipeline.Window.flush_eq_flushF]
  unfold Pipeline.Window.flushF
  rw [ho, Bool.true_and, Bool.or_eq_true, decide_eq_true_iff, decide_eq_true_iff]
  constructor
  · rintro (h | ⟨h, b, hb⟩)
    · exact Or.inl (by omega)
    · refine Or.inr fun q => hb ?_
      rw [index4 ha, index4 ha]
      simp only [q]
  · rintro (h | h)
    · exact Or.inl (by omega)
    · by_cases h9 : t.val + 1 = 40
      · exact Or.inl (h9.trans hN'.symm)
      · have hlt : t.val + 1 < (cfg0 a).grid.N := by have := t.isLt; omega
        refine Or.inr ⟨hlt, (0 : Fin 2), ?_⟩
        rw [index4 ha, index4 ha]
        exact h

/-- A place of a visit's block in the whole array. -/
theorem emb4 (t : Fin (cfg0 a).N) (r : Fin 256) (j : Fin 1) :
    ((((cfg0 a).win 4).rect t).emb (ix2 r j) : S8192x1.Idx) = ix2 (Spec.rowOf n t.val r) j := by
  have hi := index4 ha t
  funext (b : Fin 2)
  apply Fin.ext
  refine (Rect.emb_apply ..).trans ?_
  match b with
  | 0 =>
    show ((cfg0 a).win 4).index t (0 : Fin 2) * 256 + 1 * r.val = _
    rw [hi]; show Plan.tile n t.val * 256 + 1 * r.val = 256 * Plan.tile n t.val + r.val; omega
  | 1 =>
    show ((cfg0 a).win 4).index t (1 : Fin 2) * 1 + 1 * j.val = _
    rw [hi]; show 0 * 1 + 1 * j.val = j.val; omega

/-- Every place of the array lies in a block that is written back. -/
theorem cover4 (i : S8192x1.Idx) : ∃ t : Fin (cfg0 a).N, ((cfg0 a).win 4).flush t = true ∧ i ∈ (((cfg0 a).win 4).blk t).view.set := by
  have hN : (cfg0 a).N = 40 := by show grid0.N = 40; decide
  have hR : (i 0).val < 8192 := (i 0).isLt
  obtain ⟨v, hv, hT, hl⟩ := Plan.cover (n := n) (T := (i 0).val / 256) (by omega)
  have ht : v < (cfg0 a).N := by omega
  refine ⟨⟨v, ht⟩, (flush4_iff ha ⟨v, ht⟩).2 hl, ?_⟩
  have h1 : (i 1).val < 1 := (i 1).isLt
  refine (Pipeline.Window.emb_mem_blk_iff ((cfg0 a).win 4) ⟨v, ht⟩ i).2 fun (b : Fin 2) => ?_
  rw [index4 ha]
  match b with
  | 0 =>
    show Plan.tile n v * 256 ≤ (i 0).val ∧ (i 0).val < Plan.tile n v * 256 + 256
    omega
  | 1 =>
    show 0 * 1 ≤ (i 1).val ∧ (i 1).val < 0 * 1 + 1
    omega

/-- The array, its blocks holding at their last visits what the visits may leave. -/
theorem array4 (after : (w : Fin (cfg0 a).W) → Fin (cfg0 a).N → ((cfg0 a).win w).block.Idx → Elt Ideal ((cfg0 a).win w).elt)
    (hL : ∀ (w : Fin (cfg0 a).W) (u : Fin (cfg0 a).N), ((cfg0 a).win w).flush u = true → (rdat a V c).Leaves w u (after w u)) :
    ((rdat a V c).withAfter after).arrAt 4 (cfg0 a).N = scales V c n := by
  have hN : (cfg0 a).N = 40 := by show grid0.N = 40; decide
  refine Dat.arrAt_eq_of_cover ((rdat a V c).withAfter after) 4 (scales V c n) (fun t hf => ?_) (cover4 ha)
  have ht : t.val < 40 := lt_of_lt_of_eq t.isLt hN
  have key : ∀ y : S256x1.Idx, (after 4 t : S256x1.Idx → EReal) y = scales V c n ((((cfg0 a).win 4).rect t).emb y) := by
    intro y
    have hy : y = ix2 (y 0) 0 := by
      funext (b : Fin 2)
      match b with
      | 0 => rfl
      | 1 => exact Fin.ext (by have : (y 1).val < 1 := (y 1).isLt; show (y 1).val = 0; omega)
    rw [show (scales V c n ((((cfg0 a).win 4).rect t).emb y) : EReal) = scales V c n (ix2 (Spec.rowOf n t.val (y 0)) 0) from
      congrArg (scales V c n) ((congrArg (((cfg0 a).win 4).rect t).emb hy).trans (emb4 ha t (y 0) 0))]
    refine (congrArg (after 4 t : S256x1.Idx → EReal) hy).trans ?_
    refine (leaves4 ha V c t.val t.isLt _ (hL 4 t hf) (y 0)).trans ?_
    have e : state n (xs V c) (ws V c) (ss V c) t.val (y 0) = hrow n (xs V c) (ws V c) (ss V c) (Spec.rowOf n t.val (y 0)) :=
      funext fun j => Spec.state_done n _ _ _ ht ((flush4_iff ha t).1 hf) (y 0) j
    rw [e]
    rfl
  exact funext fun y => key y

/-- What the run leaves in the two arrays. -/
theorem results {r : PUnit × MemSt nD τ sig (Elt Ideal)} (h : RDat.FramePost (cfg0 a) (rdat a V) V r) :
    r.2.mem ((c : Thread nD τ).loc main_v82_0) = codes V c n ∧ r.2.mem ((c : Thread nD τ).loc main_v82_1) = scales V c n := by
  obtain ⟨after, hL, hA⟩ := h.exists_exact c
  exact ⟨(hA 3).trans (array3 ha V c after hL), (hA 4).trans (array4 ha V c after hL)⟩

end Cert.KernelIdeal.Arrays
-- ==== Proof.RefSteps.lean ====
module

public import proofs.«01_k».proof.Proof.Gen.ReferenceIdeal.Value
public import proofs.«01_k».proof.Proof.Full
public import Idealize.ShloMosaic.Lib.WholeRead
public import Idealize.ShloMosaic.Lib.WordCmp

@[expose] public section

/-! The reference's body as a loop over the experts: what its straight-line text computes from its loads. -/

set_option maxRecDepth 16384

noncomputable section

namespace Cert.ReferenceIdeal.Steps

open Cert.ReferenceIdeal.Gen
open Idealize.ShloMosaic

variable (x : Vec Ideal S8192x1024 .bf16) (g : Fin 8 → BitVec 32) (wg wu : Fin 8 → Vec Ideal S1x1024x2816 .fp8e4m3) (sg su : Fin 8 → Vec Ideal S1x2816 .f32)

/-- The rows' numbers. -/
def rowNo : IVec S8192x1 32 := iota .tc S8192x1 32 [0] iota_S8192x1_d0_w32

/-- The rows from `a` up to `b`. -/
def mask (a b : BitVec 32) : IVec S8192x1 1 :=
  andi (cmpi .sge rowNo (broadcast S8192x1 a)) (cmpi .slt rowNo (broadcast S8192x1 b))

/-- The rows marked by `m` taken from `new`, the others from `old`. -/
def take (m : IVec S8192x1 1) (new old : FVec Ideal S8192x2816 .f32) : FVec Ideal S8192x2816 .f32 :=
  select (broadcastTo S8192x2816 (shapeCast S8192x1 m shapeCasts_S8192x1_S8192x1) broadcasts_S8192x1_S8192x2816) new old

/-- The rows' products with one expert's columns. -/
def dot (v : FVec Ideal S8192x1024 .fp8e4m3) (w : Vec Ideal S1x1024x2816 .fp8e4m3) : FVec Ideal S8192x2816 .f32 :=
  matmul dot_S8192x1024_S1024x2816_S8192x2816_1_0_0_1_n_n none v
    (shapeCast S1024x2816 w shapeCasts_S1x1024x2816_S1024x2816 : FVec Ideal S1024x2816 .fp8e4m3) (constant S8192x2816 .f32 0x00000000#32)

/-- One expert's column scales, repeated for every row. -/
def spread (s : Vec Ideal S1x2816 .f32) : FVec Ideal S8192x2816 .f32 :=
  broadcastTo S8192x2816 (shapeCast S1x2816 s shapeCasts_S1x2816_S1x2816 : FVec Ideal S1x2816 .f32) broadcasts_S1x2816_S8192x2816

/-- The rows' codes. -/
def codes : FVec Ideal S8192x1024 .fp8e4m3 := k0_pay6 (k0_pay4 x) k0_pay5

/-- Where the group of expert `e` starts. -/
def start : ℕ → BitVec 32
  | 0 => 0#32
  | e + 1 => Scalar.addi (start e) (g (Fin.ofNat 8 e))

/-- The rows' products after `e` experts. -/
def acc (w : Fin 8 → Vec Ideal S1x1024x2816 .fp8e4m3) : ℕ → FVec Ideal S8192x2816 .f32
  | 0 => broadcast S8192x2816 (Scalar.ofBits .f32 0x00000000#32 : Ideal .f32)
  | e + 1 => take (mask (start g e) (start g (e + 1))) (dot (codes x) (w (Fin.ofNat 8 e))) (acc w e)

/-- The rows' column scales after `e` experts. -/
def scl (s : Fin 8 → Vec Ideal S1x2816 .f32) : ℕ → FVec Ideal S8192x2816 .f32
  | 0 => spread (s 7)
  | e + 1 => take (mask (start g e) (start g (e + 1))) (spread (s (Fin.ofNat 8 e))) (scl s e)

/-- The rows' gated values, before they are quantised. -/
def hidden : FVec Ideal S8192x2816 .f32 :=
  have gate : FVec Ideal S8192x2816 .f32 := mulf (mulf (acc x g wg 8) (broadcastTo S8192x2816 (k0_pay3 (F := Ideal) x) broadcasts_S8192x1_S8192x2816)) (scl g sg 8)
  have up : FVec Ideal S8192x2816 .f32 := mulf (mulf (acc x g wu 8) (broadcastTo S8192x2816 (k0_pay3 (F := Ideal) x) broadcasts_S8192x1_S8192x2816)) (scl g su 8)
  mulf (mulf gate (logistic gate)) up

/-- The text's values, in the order in which it makes them, end in `hidden`. -/
theorem text_hidden :
    (have v27 := k0_pay3 (F := Ideal) x
     have v41 := k0_pay4 (F := Ideal) x
     have v42 := k0_pay5 (F := Ideal)
     have v44 := k0_pay6 (F := Ideal) v41 v42
     have v45 : IVec S8192x1 32 := iota .tc S8192x1 32 [0] iota_S8192x1_d0_w32
     have v53 := k0_pay7 (F := Ideal) (su 7)
     have v55 : BitVec 32 := Scalar.addi 0#32 (g 0)
     have v69 := k0_pay9 (F := Ideal) v41 v42 (g 0) (wg 0)
     have v72 := k0_pay10 (F := Ideal) v41 v42 (g 0) (wu 0)
     have v78 := k0_pay11 (F := Ideal) (sg 7) (g 0) (sg 0)
     have v81 := k0_pay12 (F := Ideal) (g 0)
     have v86 : BitVec 32 := Scalar.addi v55 (g 1)
     have v100 := k0_pay14 (F := Ideal) v44 v45 v55 v69 (g 1) (wg 1)
     have v103 := k0_pay15 (F := Ideal) v44 v45 v55 v72 (g 1) (wu 1)
     have v109 := k0_pay16 (F := Ideal) v45 v55 v78 (g 1) (sg 1)
     have v115 := k0_pay17 (F := Ideal) v45 v53 v55 (su 0) v81 (g 1) (su 1)
     have v117 : BitVec 32 := Scalar.addi v86 (g 2)
     have v122 := k0_pay18 (F := Ideal) v45 v55 (g 1) (g 2)
     have v124 := k0_pay19 (F := Ideal) (wg 2)
     have v140 := k0_pay20 (F := Ideal) v109 v122 (sg 2)
     have v146 := k0_pay21 (F := Ideal) v115 v122 (su 2)
     have v148 : BitVec 32 := Scalar.addi v117 (g 3)
     have v153 := k0_pay22 (F := Ideal) v45 v117 (g 3)
     have v162 := k0_pay23 (F := Ideal) v44 v45 v100 v117 v122 v124 (g 3) (wg 3)
     have v165 := k0_pay24 (F := Ideal) v44 v45 v103 v117 v122 (wu 2) (g 3) (wu 3)
     have v179 : BitVec 32 := Scalar.addi v148 (g 4)
     have v193 := k0_pay26 (F := Ideal) v44 v45 v148 v162 (g 4) (wg 4)
     have v196 := k0_pay27 (F := Ideal) v44 v45 v148 v165 (g 4) (wu 4)
     have v202 := k0_pay28 (F := Ideal) v45 v140 v148 v153 (sg 3) (g 4) (sg 4)
     have v208 := k0_pay29 (F := Ideal) v45 v146 v148 v153 (su 3) (g 4) (su 4)
     have v210 : BitVec 32 := Scalar.addi v179 (g 5)
     have v224 := k0_pay31 (F := Ideal) v44 v45 v179 v193 (g 5) (wg 5)
     have v227 := k0_pay32 (F := Ideal) v44 v45 v179 v196 (g 5) (wu 5)
     have v233 := k0_pay33 (F := Ideal) v45 v179 v202 (g 5) (sg 5)
     have v239 := k0_pay34 (F := Ideal) v45 v179 v208 (g 5) (su 5)
     have v241 : BitVec 32 := Scalar.addi v210 (g 6)
     have v246 := k0_pay35 (F := Ideal) v45 v179 (g 5) (g 6)
     have v249 := k0_pay36 (F := Ideal) v44 (wg 6)
     have v264 := k0_pay37 (F := Ideal) v233 v246 (sg 6)
     have v270 := k0_pay38 (F := Ideal) v239 v246 (su 6)
     have v277 := k0_pay39 (F := Ideal) v45 v241 (g 7)
     have v286 := k0_pay40 (F := Ideal) v44 v45 v224 v241 v246 v249 (g 7) (wg 7)
     have v289 := k0_pay41 (F := Ideal) v44 v45 v227 v241 v246 (wu 6) (g 7) (wu 7)
     have v292 := k0_pay42 (F := Ideal) v45 v241 (g 7)
     k0_pay43 (F := Ideal) v27 v264 v270 v277 v286 v289 (sg 7) v292 (su 7))
    = hidden x g wg wu sg su := rfl

end Cert.ReferenceIdeal.Steps

end
-- ==== Proof.RefEntry.lean ====
module

public import proofs.«01_k».proof.Proof.Gen.ReferenceIdeal.Value
public import proofs.«01_k».proof.Proof.Full

@[expose] public section

/-! The reference's quantiser, entry by entry: the scale of a row and its codes. -/

set_option maxRecDepth 16384

noncomputable section

namespace Cert.ReferenceIdeal.Entry

open Cert.ReferenceIdeal.Gen
open Idealize.ShloMosaic
open Cert.Spec (rowScale code)

/-- The scales of rows, from their greatest absolute values. -/
def scaleOf (v4 : FVec Ideal S8192x1 .f32) : FVec Ideal S8192x1 .f32 :=
  have cst_1 : Ideal .f32 := Scalar.ofBits .f32 0x3B124925#32
  have v5 : FVec Ideal S8192x1 .f32 := broadcast S8192x1 cst_1
  have v6 : FVec Ideal S8192x1 .f32 := mulf v4 v5
  have v7 : IVec S1x253 32 := iota .tc S1x253 32 [1] iota_S1x253_d1_w32
  have v8 : FVec Ideal S1x253 .f32 := sitofp .f32 v7
  have cst_2 : Ideal .f32 := Scalar.ofBits .f32 0x42FA0000#32
  have v9 : FVec Ideal S1x253 .f32 := broadcast S1x253 cst_2
  have v10 : FVec Ideal S1x253 .f32 := subf v8 v9
  have v11 : FVec Ideal S1x253 .f32 := exp2 v10
  have v12 : FVec Ideal S8192x253 .f32 := broadcastTo S8192x253 v11 broadcasts_S1x253_S8192x253
  have v13 : FVec Ideal S8192x253 .f32 := broadcastTo S8192x253 v6 broadcasts_S8192x1_S8192x253
  have v14 : IVec S8192x253 1 := cmpf .ogt v12 v13
  have cst_3 : Ideal .f32 := Scalar.ofBits .f32 0x7F800000#32
  have v15 : FVec Ideal S1x253 .f32 := shapeCast S1x253 v11 shapeCasts_S1x253_S1x253
  have v16 : FVec Ideal S8192x253 .f32 := broadcastTo S8192x253 v15 broadcasts_S1x253_S8192x253
  have v17 : FVec Ideal S8192x253 .f32 := broadcast S8192x253 cst_3
  have v18 : FVec Ideal S8192x253 .f32 := select v14 v16 v17
  have v19 : FVec Ideal S8192 .f32 := multiReduction .minimumf [1] S8192 v18 0x7F800000#32 reduces_S8192x253_S8192 (.inl rfl) rfl
  have v20 : FVec Ideal S8192x1 .f32 := shapeCast S8192x1 v19 shapeCasts_S8192_S8192x1
  have cst_5 : Ideal .f32 := Scalar.ofBits .f32 0x00800000#32
  have v21 : FVec Ideal S8192x1 .f32 := broadcast S8192x1 cst_5
  have v22 : IVec S8192x1 1 := cmpf .olt v6 v21
  have cst_6 : Ideal .f32 := Scalar.ofBits .f32 0x7F800000#32
  have v23 : FVec Ideal S8192x1 .f32 := broadcast S8192x1 cst_6
  have v24 : IVec S8192x1 1 := cmpf .oeq v6 v23
  have v25 : IVec S8192x1 1 := ori v22 v24
  have cst_7 : Ideal .f32 := Scalar.ofBits .f32 0x3F800000#32
  have v26 : FVec Ideal S8192x1 .f32 := broadcast S8192x1 cst_7
  select v25 v26 v20

/-- The greatest absolute value of each row of the argument. -/
def rowMax (x : Vec Ideal S8192x1024 .bf16) : FVec Ideal S8192x1 .f32 :=
  shapeCast S8192x1 (multiReduction .maximumf [1] S8192 (absf (k0_pay2 (F := Ideal) x)) 0xFF800000#32 reduces_S8192x1024_S8192 (.inl rfl) rfl : FVec Ideal S8192 .f32) shapeCasts_S8192_S8192x1

/-- The greatest absolute value of each row of the hidden values. -/
def hidMax (h : FVec Ideal S8192x2816 .f32) : FVec Ideal S8192x1 .f32 :=
  shapeCast S8192x1 (multiReduction .maximumf [1] S8192 (absf h) 0xFF800000#32 reduces_S8192x2816_S8192 (.inl rfl) rfl : FVec Ideal S8192 .f32) shapeCasts_S8192_S8192x1

/-- The body's scales of `x` are `scaleOf` its rows' greatest absolute values. -/
theorem pay3_eq (x : Vec Ideal S8192x1024 .bf16) : k0_pay3 (F := Ideal) x = scaleOf (rowMax x) := rfl

/-- The body's second scales are `scaleOf` the hidden rows' greatest absolute values. -/
theorem pay44_eq (v27 v264 v270 v277 v286 v289 v290 v292 v296) :
    k0_pay44 (F := Ideal) v27 v264 v270 v277 v286 v289 v290 v292 v296 = scaleOf (hidMax (k0_pay43 (F := Ideal) v27 v264 v270 v277 v286 v289 v290 v292 v296)) := rfl

/-- A row's scale is the one the quantiser gives its greatest absolute value. -/
theorem scaleOf_apply (v4 : FVec Ideal S8192x1 .f32) (r : Fin 8192) :
    scaleOf v4 (ix2 r 0) = Scale.scale (v4 (ix2 r 0) * Ideal.ofBits .f32 0x3B124925#32) := by
  unfold Scale.scale Scale.pow2
  pointwise [scaleOf]
  rfl

/-- The greatest absolute value in a row of `x`. -/
theorem rowMax_apply (x : Vec Ideal S8192x1024 .bf16) (r : Fin 8192) : rowMax x (ix2 r 0) = Spec.amax fun k => x (ix2 r k) := by
  rw [← Spec.amax_bot (by norm_num), ← Scale.ofBits_bot]
  unfold Spec.abs
  pointwise [rowMax, k0_pay2]

/-- The greatest absolute value in a row of hidden values. -/
theorem hidMax_apply (h : FVec Ideal S8192x2816 .f32) (r : Fin 8192) : hidMax h (ix2 r 0) = Spec.amax fun k => h (ix2 r k) := by
  rw [← Spec.amax_bot (by norm_num), ← Scale.ofBits_bot]
  unfold Spec.abs
  pointwise [hidMax]

/-- The rows' scales. -/
theorem pay3_apply (x : Vec Ideal S8192x1024 .bf16) (r : Fin 8192) : k0_pay3 (F := Ideal) x (ix2 r 0) = rowScale fun k => x (ix2 r k) := by
  rw [pay3_eq, scaleOf_apply, rowMax_apply]
  rfl

/-- The hidden rows' scales. -/
theorem hidScale_apply (h : FVec Ideal S8192x2816 .f32) (r : Fin 8192) : scaleOf (hidMax h) (ix2 r 0) = rowScale fun k => h (ix2 r k) := by
  rw [scaleOf_apply, hidMax_apply]
  rfl

/-- Codes of the argument from its rows' scales. -/
def codeX (s : FVec Ideal S8192x1 .f32) (x : FVec Ideal S8192x1024 .f32) : FVec Ideal S8192x1024 .fp8e4m3 :=
  have v28 : FVec Ideal S8192x1 .f32 := broadcast S8192x1 (Scalar.ofBits .f32 0x7F800000#32 : Ideal .f32)
  have v29 : IVec S8192x1 1 := cmpf .oeq s v28
  have v30 : FVec Ideal S8192x1 .f32 := broadcast S8192x1 (Scalar.ofBits .f32 0x7F000000#32 : Ideal .f32)
  have v31 : IVec S8192x1 1 := cmpf .oeq s v30
  have v32 : FVec Ideal S8192x1 .f32 := broadcast S8192x1 (Scalar.ofBits .f32 0x3F800000#32 : Ideal .f32)
  have v33 : FVec Ideal S8192x1 .f32 := divf v32 s
  have v34 : FVec Ideal S8192x1 .f32 := broadcast S8192x1 (Scalar.ofBits .f32 0x00000000#32 : Ideal .f32)
  have v35 : FVec Ideal S8192x1 .f32 := select v31 v34 v33
  have v36 : FVec Ideal S8192x1 .f32 := broadcast S8192x1 (Scalar.ofBits .f32 0xFF800000#32 : Ideal .f32)
  have v37 : FVec Ideal S8192x1 .f32 := select v29 v36 v35
  have v38 : FVec Ideal S8192x1024 .f32 := broadcastTo S8192x1024 v37 broadcasts_S8192x1_S8192x1024
  have v39 : FVec Ideal S8192x1024 .f32 := mulf x v38
  have v40 : FVec Ideal S8192x1024 .f32 := broadcast S8192x1024 (Scalar.ofBits .f32 0xC3E00000#32 : Ideal .f32)
  have v41 : FVec Ideal S8192x1024 .f32 := maximumf v40 v39
  have v42 : FVec Ideal S8192x1024 .f32 := broadcast S8192x1024 (Scalar.ofBits .f32 0x43E00000#32 : Ideal .f32)
  truncf .fp8e4m3 (minimumf v42 v41 : FVec Ideal S8192x1024 .f32) bitsLt_fp8e4m3_f32

/-- The body's codes of `x`, from its scales. -/
theorem codes_eq (x : Vec Ideal S8192x1024 .bf16) : k0_pay6 (F := Ideal) (k0_pay4 x) k0_pay5 = codeX (k0_pay3 (F := Ideal) x) (k0_pay2 x) := rfl

/-- A code of `x` is its value over the row's scale, clipped. -/
theorem codeX_apply (s : FVec Ideal S8192x1 .f32) (x : FVec Ideal S8192x1024 .f32) (r : Fin 8192) (k : Fin 1024) :
    codeX s x (ix2 r k) = code (s (ix2 r 0)) (x (ix2 r k)) := by
  unfold code Scale.inv
  pointwise [codeX]

/-- Over the reals the cast of `x` to f32 changes nothing. -/
theorem pay2_apply (x : Vec Ideal S8192x1024 .bf16) (r : Fin 8192) (k : Fin 1024) : k0_pay2 (F := Ideal) x (ix2 r k) = x (ix2 r k) := by
  pointwise [k0_pay2]

/-- The rows' codes. -/
theorem codes_apply (x : Vec Ideal S8192x1024 .bf16) (r : Fin 8192) (k : Fin 1024) :
    k0_pay6 (F := Ideal) (k0_pay4 x) k0_pay5 (ix2 r k) = code (rowScale fun k => x (ix2 r k)) (x (ix2 r k)) := by
  rw [codes_eq, codeX_apply, pay3_apply, pay2_apply]

/-- The hidden rows' codes. -/
theorem pay1_apply (h : FVec Ideal S8192x2816 .f32) (s : FVec Ideal S8192x1 .f32) (r : Fin 8192) (j : Fin 2816) :
    k0_pay1 (F := Ideal) h s (cmpf .oeq s (broadcast S8192x1 (Scalar.ofBits .f32 0x7F800000#32 : Ideal .f32)))
      (cmpf .oeq s (broadcast S8192x1 (Scalar.ofBits .f32 0x7F000000#32 : Ideal .f32))) (ix2 r j) = code (s (ix2 r 0)) (h (ix2 r j)) := by
  unfold code Scale.inv
  pointwise [k0_pay1]

end Cert.ReferenceIdeal.Entry

end
-- ==== Proof.RefRow.lean ====
module

public import proofs.«01_k».proof.Proof.RefSteps
public import proofs.«01_k».proof.Proof.RefEntry

@[expose] public section

/-! The reference's hidden values, entry by entry: every row of a group is computed with that group's expert. -/

set_option maxRecDepth 16384

noncomputable section

namespace Cert.ReferenceIdeal.Steps

open Cert.ReferenceIdeal.Gen
open Idealize.ShloMosaic

variable (x : Vec Ideal S8192x1024 .bf16) (g : Fin 8 → BitVec 32) (wg wu : Fin 8 → Vec Ideal S1x1024x2816 .fp8e4m3) (sg su : Fin 8 → Vec Ideal S1x2816 .f32)

/-- An entry of the rows taken. -/
theorem take_apply (m : IVec S8192x1 1) (new old : FVec Ideal S8192x2816 .f32) (r : Fin 8192) (j : Fin 2816) :
    take m new old (ix2 r j) = if m (ix2 r 0) = 1#1 then new (ix2 r j) else old (ix2 r j) := by
  pointwise [take]
  rfl

/-- An entry of the products. -/
theorem dot_apply (v : FVec Ideal S8192x1024 .fp8e4m3) (w : Vec Ideal S1x1024x2816 .fp8e4m3) (r : Fin 8192) (j : Fin 2816) :
    dot v w (ix2 r j) = ∑ k, v (ix2 r k) * w (ix3 0 k j) := by
  pointwise [dot]

/-- An entry of the spread scales. -/
theorem spread_apply (s : Vec Ideal S1x2816 .f32) (r : Fin 8192) (j : Fin 2816) : spread s (ix2 r j) = s (ix2 0 j) := by
  pointwise [spread]

/-- Before the first expert every product is zero. -/
theorem zero_apply (r : Fin 8192) (j : Fin 2816) : (broadcast S8192x2816 (Scalar.ofBits .f32 0x00000000#32 : Ideal .f32) : FVec Ideal S8192x2816 .f32) (ix2 r j) = 0 := by
  pointwise []

/-- The rows marked are those from `a` up to `b`. -/
theorem mask_iff (a b : BitVec 32) (ha : a.toNat < 2 ^ 31) (hb : b.toNat < 2 ^ 31) (r : Fin 8192) :
    mask a b (ix2 r 0) = 1#1 ↔ a.toNat ≤ r.val ∧ r.val < b.toNat := by
  have e : mask a b (ix2 r 0) = IntOp.andi (IntOp.cmpi .sge (BitVec.ofNat 32 r.val) a) (IntOp.cmpi .slt (BitVec.ofNat 32 r.val) b) := by
    pointwise [mask, rowNo]
  have hr := r.2
  have er : (BitVec.ofNat 32 r.val).toNat = r.val := by
    rw [BitVec.toNat_ofNat]; omega
  rw [e, WordCmp.cmpi_sge_of_lt (by rw [er]; omega) (by omega), WordCmp.cmpi_slt_of_lt (by rw [er]; omega) (by omega), er]
  by_cases p : a.toNat ≤ r.val <;> by_cases q : r.val < b.toNat <;> simp [IntOp.andi, p, q]

/-- A hidden value, from the products and the scales of its row. -/
theorem hidden_apply (r : Fin 8192) (j : Fin 2816) :
    hidden x g wg wu sg su (ix2 r j)
      = Spec.swiglu (acc x g wg 8 (ix2 r j) * k0_pay3 (F := Ideal) x (ix2 r 0) * scl g sg 8 (ix2 r j))
          (acc x g wu 8 (ix2 r j) * k0_pay3 (F := Ideal) x (ix2 r 0) * scl g su 8 (ix2 r j)) := by
  unfold hidden
  generalize k0_pay3 (F := Ideal) x = s
  generalize acc x g wg 8 = a
  generalize acc x g wu 8 = b
  generalize scl g sg 8 = c
  generalize scl g su 8 = d
  unfold Spec.swiglu
  rw [zero_sub]
  show mulf (mulf (mulf (mulf a (broadcastTo S8192x2816 s broadcasts_S8192x1_S8192x2816)) c) (logistic (mulf (mulf a (broadcastTo S8192x2816 s broadcasts_S8192x1_S8192x2816)) c)))
    (mulf (mulf b (broadcastTo S8192x2816 s broadcasts_S8192x1_S8192x2816)) d) (ix2 r j) = _
  pointwise []
  rfl

variable {g} {n : ℕ → ℕ} (hn : ∀ e : Fin 8, (g e).toNat = n e.val) (hle : ∀ e < 8, n e ≤ 8192)

include hn hle

/-- A group starts where the sizes before it add up to. -/
theorem start_toNat (e : ℕ) (he : e ≤ 8) : (start g e).toNat = ∑ i ∈ Finset.range e, n i ∧ ∑ i ∈ Finset.range e, n i ≤ 8192 * e := by
  induction e with
  | zero => simp [start]
  | succ e ih =>
    obtain ⟨h1, h2⟩ := ih (by omega)
    have h3 := hle e (by omega)
    have h4 := hn (Fin.ofNat 8 e)
    have h5 : (Fin.ofNat 8 e).val = e := Nat.mod_eq_of_lt (by omega)
    rw [h5] at h4
    rw [Finset.sum_range_succ]
    refine ⟨?_, by omega⟩
    show (start g e + g (Fin.ofNat 8 e)).toNat = _
    rw [BitVec.toNat_add, h1, h4]
    omega

/-- The rows marked for an expert are those of its group. -/
theorem mine_iff (e : ℕ) (he : e < 8) (r : Fin 8192) :
    mask (start g e) (start g (e + 1)) (ix2 r 0) = 1#1 ↔ Plan.bnd n e ≤ r.val ∧ r.val < Plan.bnd n (e + 1) := by
  obtain ⟨h1, h2⟩ := start_toNat hn hle e (by omega)
  obtain ⟨h3, h4⟩ := start_toNat hn hle (e + 1) (by omega)
  have hr := r.2
  rw [mask_iff _ _ (by omega) (by omega), h1, h3]
  unfold Plan.bnd
  rw [if_pos (show e ≤ 8 by omega), if_pos (show e + 1 ≤ 8 by omega)]
  omega

/-- The products of a row of group `o` are its expert's once that expert has had its turn. -/
theorem acc_mem (w : Fin 8 → Vec Ideal S1x1024x2816 .fp8e4m3) (o : Fin 8) (r : Fin 8192) (j : Fin 2816)
    (ho : Plan.bnd n o.val ≤ r.val ∧ r.val < Plan.bnd n (o.val + 1)) (e : ℕ) (he : e ≤ 8) :
    acc x g w e (ix2 r j) = if o.val < e then dot (codes x) (w o) (ix2 r j) else 0 := by
  induction e with
  | zero => exact zero_apply r j
  | succ e ih =>
    show take _ _ _ (ix2 r j) = _
    rw [take_apply, ih (by omega)]
    by_cases h : o.val = e
    · have h5 : Fin.ofNat 8 e = o := Fin.ext ((Nat.mod_eq_of_lt (by omega)).trans h.symm)
      rw [if_pos ((mine_iff hn hle e (by omega) r).2 (by rw [← h]; exact ho)), if_pos (show o.val < e + 1 by omega), h5]
    · rw [if_neg (fun q => h (Spec.group_unique n ho ((mine_iff hn hle e (by omega) r).1 q)))]
      by_cases h' : o.val < e
      · rw [if_pos h', if_pos (show o.val < e + 1 by omega)]
      · rw [if_neg h', if_neg (show ¬ o.val < e + 1 by omega)]

/-- The products of a row of no group stay zero. -/
theorem acc_none (w : Fin 8 → Vec Ideal S1x1024x2816 .fp8e4m3) (r : Fin 8192) (j : Fin 2816)
    (ho : ∀ o : Fin 8, ¬ (Plan.bnd n o.val ≤ r.val ∧ r.val < Plan.bnd n (o.val + 1))) (e : ℕ) (he : e ≤ 8) :
    acc x g w e (ix2 r j) = 0 := by
  induction e with
  | zero => exact zero_apply r j
  | succ e ih =>
    show take _ _ _ (ix2 r j) = _
    rw [take_apply, ih (by omega), if_neg (fun q => ho ⟨e, by omega⟩ ((mine_iff hn hle e (by omega) r).1 q))]

/-- The scales of a row of group `o` are its expert's once that expert has had its turn. -/
theorem scl_mem (s : Fin 8 → Vec Ideal S1x2816 .f32) (o : Fin 8) (r : Fin 8192) (j : Fin 2816)
    (ho : Plan.bnd n o.val ≤ r.val ∧ r.val < Plan.bnd n (o.val + 1)) (e : ℕ) (he : e ≤ 8) :
    scl g s e (ix2 r j) = if o.val < e then s o (ix2 0 j) else s 7 (ix2 0 j) := by
  induction e with
  | zero => exact spread_apply _ r j
  | succ e ih =>
    show take _ _ _ (ix2 r j) = _
    rw [take_apply, ih (by omega), spread_apply]
    by_cases h : o.val = e
    · have h5 : Fin.ofNat 8 e = o := Fin.ext ((Nat.mod_eq_of_lt (by omega)).trans h.symm)
      rw [if_pos ((mine_iff hn hle e (by omega) r).2 (by rw [← h]; exact ho)), if_pos (show o.val < e + 1 by omega), h5]
    · rw [if_neg (fun q => h (Spec.group_unique n ho ((mine_iff hn hle e (by omega) r).1 q)))]
      by_cases h' : o.val < e
      · rw [if_pos h', if_pos (show o.val < e + 1 by omega)]
      · rw [if_neg h', if_neg (show ¬ o.val < e + 1 by omega)]

/-- Every hidden value is the one the row's group asks for. -/
theorem hidden_row (W : Fin 8 → Fin 1024 → Fin 5632 → EReal) (S : Fin 8 → Fin 5632 → EReal)
    (hwg : ∀ e k j, wg e (ix3 0 k j) = W e k (Spec.gcol j)) (hwu : ∀ e k j, wu e (ix3 0 k j) = W e k (Spec.ucol j))
    (hsg : ∀ e j, sg e (ix2 0 j) = S e (Spec.gcol j)) (hsu : ∀ e j, su e (ix2 0 j) = S e (Spec.ucol j)) (r : Fin 8192) (j : Fin 2816) :
    hidden x g wg wu sg su (ix2 r j) = Spec.hrow n (fun R k => x (ix2 R k)) W S r j := by
  rw [hidden_apply, Entry.pay3_apply]
  by_cases h : ∃ o : Fin 8, Plan.bnd n o.val ≤ r.val ∧ r.val < Plan.bnd n (o.val + 1)
  · obtain ⟨o, ho⟩ := h
    rw [Spec.hrow_mem n _ W S r o ho, acc_mem x hn hle wg o r j ho 8 le_rfl, acc_mem x hn hle wu o r j ho 8 le_rfl,
      scl_mem hn hle sg o r j ho 8 le_rfl, scl_mem hn hle su o r j ho 8 le_rfl]
    simp only [if_pos o.isLt, dot_apply, hwg, hwu, hsg, hsu, codes, Entry.codes_apply]
    rfl
  · have h' : ∀ o : Fin 8, ¬ (Plan.bnd n o.val ≤ r.val ∧ r.val < Plan.bnd n (o.val + 1)) := fun o ho => h ⟨o, ho⟩
    rw [Spec.hrow_none n _ W S r h', acc_none x hn hle wg r j h' 8 le_rfl, acc_none x hn hle wu r j h' 8 le_rfl]
    simp [Spec.swiglu]

end Cert.ReferenceIdeal.Steps

end
-- ==== Proof.RefBody.lean ====
module

public import proofs.«01_k».proof.Proof.RefRow

@[expose] public section

/-! What the reference's body stores: the codes and the scales of the hidden values. -/

set_option maxRecDepth 16384

noncomputable section

namespace Cert.ReferenceIdeal.Body

open Cert.ReferenceIdeal.Gen Cert.ReferenceIdeal.Steps Cert.ReferenceIdeal.Entry
open Idealize.ShloMosaic
open Cert.Spec (rowScale code)

/-- An expert's size lies in the sizes. -/
theorem inb_g (e : Fin 8) : ∀ a, (![e.val] : Fin 1 → ℕ) a + S1.size a ≤ S8.size a := by
  intro a; fin_cases a; simp [S1, S8]
/-- An expert's gate columns lie in the weights. -/
theorem inb_wg (e : Fin 8) : ∀ a, (![e.val, 0, 0] : Fin 3 → ℕ) a + S1x1024x2816.size a ≤ S8x1024x5632.size a := by
  intro a; fin_cases a <;> simp [S1x1024x2816, S8x1024x5632]
/-- An expert's up columns lie in the weights. -/
theorem inb_wu (e : Fin 8) : ∀ a, (![e.val, 0, 2816] : Fin 3 → ℕ) a + S1x1024x2816.size a ≤ S8x1024x5632.size a := by
  intro a; fin_cases a <;> simp [S1x1024x2816, S8x1024x5632]
/-- An expert's gate scales lie in the scales. -/
theorem inb_sg (e : Fin 8) : ∀ a, (![e.val, 0] : Fin 2 → ℕ) a + S1x2816.size a ≤ S8x5632.size a := by
  intro a; fin_cases a <;> simp [S1x2816, S8x5632]
/-- An expert's up scales lie in the scales. -/
theorem inb_su (e : Fin 8) : ∀ a, (![e.val, 2816] : Fin 2 → ℕ) a + S1x2816.size a ≤ S8x5632.size a := by
  intro a; fin_cases a <;> simp [S1x2816, S8x5632]

variable (c : Dev nD) (arg0 : Memref sig .tc .smem S8 .i32) (harg0 : arg0.IsWhole) (arg1 : Memref sig .tc .vmem S8192x1024 .bf16) (harg1 : arg1.IsWhole)
    (arg2 : Memref sig .tc .vmem S8x1024x5632 .fp8e4m3) (harg2 : arg2.IsWhole) (arg3 : Memref sig .tc .vmem S8x5632 .f32) (harg3 : arg3.IsWhole)
    (arg4 : Memref sig .tc .vmem S8192x2816 .fp8e4m3) (harg4 : arg4.IsWhole) (arg5 : Memref sig .tc .vmem S8192x1 .f32) (harg5 : arg5.IsWhole)
    (x0 : Vec Ideal S8 .i32) (x1 : Vec Ideal S8192x1024 .bf16) (x2 : Vec Ideal S8x1024x5632 .fp8e4m3) (x3 : Vec Ideal S8x5632 .f32)

/-- The argument's rows, as loaded. -/
def rows : Vec Ideal S8192x1024 .bf16 :=
  View.readAt (Elt Ideal) arg1.view (Rect.unit (s := S8192x1024) ![0, 0] S8192x1024.size inb_S8192x1024_S8192x1024_0_0).toLoadRect (harg1.unread x1)
/-- A group's size, as loaded. -/
def size (e : Fin 8) : BitVec 32 :=
  View.readAt (Elt Ideal) arg0.view (Rect.unit (s := S8) ![e.val] S1.size (inb_g e)).toLoadRect (harg0.unread x0) (Shape.Idx.first (numel1_S1.ge))
/-- An expert's gate columns, as loaded. -/
def wgate (e : Fin 8) : Vec Ideal S1x1024x2816 .fp8e4m3 :=
  View.readAt (Elt Ideal) arg2.view (Rect.unit (s := S8x1024x5632) ![e.val, 0, 0] S1x1024x2816.size (inb_wg e)).toLoadRect (harg2.unread x2)
/-- An expert's up columns, as loaded. -/
def wup (e : Fin 8) : Vec Ideal S1x1024x2816 .fp8e4m3 :=
  View.readAt (Elt Ideal) arg2.view (Rect.unit (s := S8x1024x5632) ![e.val, 0, 2816] S1x1024x2816.size (inb_wu e)).toLoadRect (harg2.unread x2)
/-- The scales of an expert's gate columns, as loaded. -/
def sgate (e : Fin 8) : Vec Ideal S1x2816 .f32 :=
  View.readAt (Elt Ideal) arg3.view (Rect.unit (s := S8x5632) ![e.val, 0] S1x2816.size (inb_sg e)).toLoadRect (harg3.unread x3)
/-- The scales of an expert's up columns, as loaded. -/
def sup (e : Fin 8) : Vec Ideal S1x2816 .f32 :=
  View.readAt (Elt Ideal) arg3.view (Rect.unit (s := S8x5632) ![e.val, 2816] S1x2816.size (inb_su e)).toLoadRect (harg3.unread x3)

/-- The body's hidden values. -/
def hid : FVec Ideal S8192x2816 .f32 :=
  hidden (rows arg1 harg1 x1) (size arg0 harg0 x0) (wgate arg2 harg2 x2) (wup arg2 harg2 x2) (sgate arg3 harg3 x3) (sup arg3 harg3 x3)

/-- The body stores the scales once. -/
theorem pieces5 :
    (kernelRun0_A (F := Ideal) c arg0 harg0 arg1 harg1 arg2 harg2 arg3 harg3 arg4 harg4 arg5 harg5 x0 x1 x2 x3).2.1
      = [⟨Rect.unit (s := S8192x1) ![0, 0] S8192x1.size inb_S8192x1_S8192x1_0_0, scaleOf (hidMax (hid arg0 harg0 arg1 harg1 arg2 harg2 arg3 harg3 x0 x1 x2 x3))⟩] := rfl

/-- The body stores the codes once. -/
theorem pieces4 :
    (kernelRun0_A (F := Ideal) c arg0 harg0 arg1 harg1 arg2 harg2 arg3 harg3 arg4 harg4 arg5 harg5 x0 x1 x2 x3).1
      = [⟨Rect.unit (s := S8192x2816) ![0, 0] S8192x2816.size inb_S8192x2816_S8192x2816_0_0,
          have h := hid arg0 harg0 arg1 harg1 arg2 harg2 arg3 harg3 x0 x1 x2 x3
          have s := scaleOf (hidMax h)
          k0_pay1 (F := Ideal) h s (cmpf .oeq s (broadcast S8192x1 (Scalar.ofBits .f32 0x7F800000#32 : Ideal .f32)))
            (cmpf .oeq s (broadcast S8192x1 (Scalar.ofBits .f32 0x7F000000#32 : Ideal .f32)))⟩] := rfl

/-! ## The loads, entry by entry -/

/-- The body reads all of `x`. -/
theorem rows_apply (r : Fin 8192) (k : Fin 1024) : rows arg1 harg1 x1 (ix2 r k) = x1 (ix2 r k) := by
  unfold rows
  rw [harg1.readAt_unread]
  congr 1
  funext a
  apply Fin.ext
  match a with
  | 0 => show 0 + 1 * r.val = r.val; omega
  | 1 => show 0 + 1 * k.val = k.val; omega

/-- The body reads expert `e`'s size. -/
theorem size_eq (e : Fin 8) : size arg0 harg0 x0 e = x0 (ix1 e) := by
  unfold size
  rw [harg0.readAt_unread]
  congr 1
  funext a
  apply Fin.ext
  match a with
  | 0 => rfl

/-- The body reads expert `e`'s gate columns. -/
theorem wgate_apply (e : Fin 8) (k : Fin 1024) (j : Fin 2816) : wgate arg2 harg2 x2 e (ix3 0 k j) = x2 (ix3 e k (Spec.gcol j)) := by
  unfold wgate
  rw [harg2.readAt_unread]
  congr 1
  funext a
  apply Fin.ext
  match a with
  | 0 => rfl
  | 1 => show 0 + 1 * k.val = k.val; omega
  | 2 => show 0 + 1 * j.val = j.val; omega

/-- The body reads expert `e`'s up columns. -/
theorem wup_apply (e : Fin 8) (k : Fin 1024) (j : Fin 2816) : wup arg2 harg2 x2 e (ix3 0 k j) = x2 (ix3 e k (Spec.ucol j)) := by
  unfold wup
  rw [harg2.readAt_unread]
  congr 1
  funext a
  apply Fin.ext
  match a with
  | 0 => rfl
  | 1 => show 0 + 1 * k.val = k.val; omega
  | 2 => show 2816 + 1 * j.val = j.val + 2816; omega

/-- The body reads expert `e`'s gate scales. -/
theorem sgate_apply (e : Fin 8) (j : Fin 2816) : sgate arg3 harg3 x3 e (ix2 0 j) = x3 (ix2 e (Spec.gcol j)) := by
  unfold sgate
  rw [harg3.readAt_unread]
  congr 1
  funext a
  apply Fin.ext
  match a with
  | 0 => rfl
  | 1 => show 0 + 1 * j.val = j.val; omega

/-- The body reads expert `e`'s up scales. -/
theorem sup_apply (e : Fin 8) (j : Fin 2816) : sup arg3 harg3 x3 e (ix2 0 j) = x3 (ix2 e (Spec.ucol j)) := by
  unfold sup
  rw [harg3.readAt_unread]
  congr 1
  funext a
  apply Fin.ext
  match a with
  | 0 => rfl
  | 1 => show 2816 + 1 * j.val = j.val + 2816; omega

/-! ## What is left in the two blocks -/

section

variable {n : ℕ → ℕ} (hn : ∀ e : Fin 8, ((x0 (ix1 e) : BitVec 32)).toNat = n e.val) (hle : ∀ e < 8, n e ≤ 8192)

/-- The value at a row and a column, from the body's arguments. -/
abbrev row (n : ℕ → ℕ) (r : Fin 8192) (j : Fin 2816) : EReal :=
  Spec.hrow n (fun R k => x1 (ix2 R k)) (fun e k j => x2 (ix3 e k j)) (fun e j => x3 (ix2 e j)) r j

include hn hle

/-- The body's hidden values are those of the specification. -/
theorem hid_apply (r : Fin 8192) (j : Fin 2816) :
    hid arg0 harg0 arg1 harg1 arg2 harg2 arg3 harg3 x0 x1 x2 x3 (ix2 r j) = row x1 x2 x3 n r j := by
  have hx : (fun (R : Fin 8192) (k : Fin 1024) => (rows arg1 harg1 x1 (ix2 R k) : EReal)) = fun R k => x1 (ix2 R k) :=
    funext fun R => funext fun k => rows_apply ..
  unfold hid row
  rw [hidden_row (n := n) _ _ _ _ _ (fun e => by rw [size_eq]; exact hn e) hle (fun e k j => x2 (ix3 e k j)) (fun e j => x3 (ix2 e j))
    (wgate_apply arg2 harg2 x2) (wup_apply arg2 harg2 x2) (sgate_apply arg3 harg3 x3) (sup_apply arg3 harg3 x3), hx]

/-- The body's second scale of a row is the scale of its hidden values. -/
theorem hidScale_row (r : Fin 8192) :
    scaleOf (hidMax (hid arg0 harg0 arg1 harg1 arg2 harg2 arg3 harg3 x0 x1 x2 x3)) (ix2 r 0) = rowScale (row x1 x2 x3 n r) := by
  rw [hidScale_apply]
  exact congrArg rowScale (funext fun j => hid_apply arg0 harg0 arg1 harg1 arg2 harg2 arg3 harg3 x0 x1 x2 x3 hn hle r j)

/-- The scales left. -/
theorem out5_apply (r : Fin 8192) :
    out0_A_5 (F := Ideal) c arg0 harg0 arg1 harg1 arg2 harg2 arg3 harg3 arg4 harg4 arg5 harg5 x0 x1 x2 x3 (ix2 r 0) = rowScale (row x1 x2 x3 n r) := by
  unfold out0_A_5
  refine (View.read_writes_apply_of_pieces VO0_5 _ (fun y : S8192x1.Idx => rowScale (row x1 x2 x3 n (y 0))) _ ?_ _ (cover0_A_5 ..)).trans rfl
  rw [pieces5]
  intro p hp y
  obtain rfl := List.mem_singleton.1 hp
  have hy : (y : S8192x1.Idx) = ix2 (y 0) 0 := by
    funext a
    match a with
    | 0 => rfl
    | 1 => exact Fin.ext (by have : (y 1).val < 1 := (y 1).isLt; show (y 1).val = 0; omega)
  have he : ((Rect.unit (s := S8192x1) ![0, 0] S8192x1.size inb_S8192x1_S8192x1_0_0).emb y) 0 = y 0 := by
    apply Fin.ext; rw [Rect.emb_apply]; show 0 + 1 * (y 0).val = (y 0).val; omega
  show scaleOf (hidMax (hid arg0 harg0 arg1 harg1 arg2 harg2 arg3 harg3 x0 x1 x2 x3)) y
    = rowScale (row x1 x2 x3 n (((Rect.unit (s := S8192x1) ![0, 0] S8192x1.size inb_S8192x1_S8192x1_0_0).emb y) 0))
  rw [he, hy]
  exact hidScale_row arg0 harg0 arg1 harg1 arg2 harg2 arg3 harg3 x0 x1 x2 x3 hn hle _

/-- The codes left. -/
theorem out4_apply (r : Fin 8192) (j : Fin 2816) :
    out0_A_4 (F := Ideal) c arg0 harg0 arg1 harg1 arg2 harg2 arg3 harg3 arg4 harg4 arg5 harg5 x0 x1 x2 x3 (ix2 r j)
      = code (rowScale (row x1 x2 x3 n r)) (row x1 x2 x3 n r j) := by
  unfold out0_A_4
  refine (View.read_writes_apply_of_pieces VO0_4 _ (fun y : S8192x2816.Idx => code (rowScale (row x1 x2 x3 n (y 0))) (row x1 x2 x3 n (y 0) (y 1))) _ ?_ _ (cover0_A_4 ..)).trans rfl
  rw [pieces4]
  intro p hp y
  obtain rfl := List.mem_singleton.1 hp
  have hy : (y : S8192x2816.Idx) = ix2 (y 0) (y 1) := by
    funext a
    match a with
    | 0 => rfl
    | 1 => rfl
  have he : (Rect.unit (s := S8192x2816) ![0, 0] S8192x2816.size inb_S8192x2816_S8192x2816_0_0).emb y = y := by
    funext a
    apply Fin.ext
    rw [Rect.emb_apply]
    match a with
    | 0 => show 0 + 1 * (y 0).val = (y 0).val; omega
    | 1 => show 0 + 1 * (y 1).val = (y 1).val; omega
  have H : ∀ (r : Fin 8192) (j : Fin 2816),
      (have h := hid arg0 harg0 arg1 harg1 arg2 harg2 arg3 harg3 x0 x1 x2 x3
       have s := scaleOf (hidMax h)
       k0_pay1 (F := Ideal) h s (cmpf .oeq s (broadcast S8192x1 (Scalar.ofBits .f32 0x7F800000#32 : Ideal .f32)))
         (cmpf .oeq s (broadcast S8192x1 (Scalar.ofBits .f32 0x7F000000#32 : Ideal .f32)))) (ix2 r j)
        = code (rowScale (row x1 x2 x3 n r)) (row x1 x2 x3 n r j) := by
    intro r j
    refine (pay1_apply _ _ r j).trans ?_
    rw [hidScale_row arg0 harg0 arg1 harg1 arg2 harg2 arg3 harg3 x0 x1 x2 x3 hn hle, hid_apply arg0 harg0 arg1 harg1 arg2 harg2 arg3 harg3 x0 x1 x2 x3 hn hle]
  refine ((congrArg _ hy).trans (H (y 0) (y 1))).trans ?_
  exact (congrArg (fun y : S8192x2816.Idx => code (rowScale (row x1 x2 x3 n (y 0))) (row x1 x2 x3 n (y 0) (y 1))) he).symm

end

end Cert.ReferenceIdeal.Body

end
-- ==== Proof.RefValue.lean ====
module

public import proofs.«01_k».proof.Proof.RefBody
public import Idealize.ShloMosaic.Lib.Pipeline.TableIdle
public import Idealize.ShloMosaic.Lib.Pipeline.ArrRel
public import Idealize.ShloMosaic.Lib.Pipeline.ValueKit.Geometry

@[expose] public section

/-! What the reference's two result arrays hold when it has run. -/

set_option maxRecDepth 16384

noncomputable section

namespace Cert.ReferenceIdeal.Arrays

open Cert.ReferenceIdeal.Gen Cert.ReferenceIdeal.Body
open Idealize.ShloMosaic
open Idealize.ShloMosaic.TcCoe Idealize.SL Idealize.SL.Sem
open Cert.Spec (rowScale code)
open Idealize.ShloMosaic.Pipeline (Dat)

variable (m : (ℓ : Loc nD τ sig) → Buf (Elt Ideal) ℓ) (c : Dev nD)

/-- The argument arrays. -/
abbrev argX : Vec Ideal S8192x1024 .bf16 := m ((c : Thread nD τ).loc main_arg0)
/-- The argument `group_sizes`. -/
abbrev argG : Vec Ideal S8 .i32 := m ((c : Thread nD τ).loc main_arg1)
/-- The argument `w13`. -/
abbrev argW : Vec Ideal S8x1024x5632 .fp8e4m3 := m ((c : Thread nD τ).loc main_arg2)
/-- The argument `w13_scale`. -/
abbrev argS : Vec Ideal S8x5632 .f32 := m ((c : Thread nD τ).loc main_arg3)

/-- There is one step. -/
theorem t_zero (t : Fin cfg0.N) : t = (⟨0, by decide⟩ : Fin cfg0.N) := by
  have hN : cfg0.N = 1 := by show grid0.N = 1; decide
  exact Fin.ext (by have := t.isLt; show t.val = 0; omega)

/-- The one grid point takes each argument whole. -/
theorem blk0 (t : Fin cfg0.N) : (iblk m c 0 t : Vec Ideal S8 .i32) = argG m c := by
  rw [t_zero t]
  funext y
  refine congrArg (argG m c) ?_
  funext (b : Fin 1)
  apply Fin.ext
  refine (Rect.emb_apply ..).trans ?_
  match b with
  | 0 => show 0 * 8 + 1 * (y 0).val = (y 0).val; omega
/-- The step's block of `x` is all of it. -/
theorem blk1 (t : Fin cfg0.N) : (iblk m c 1 t : Vec Ideal S8192x1024 .bf16) = argX m c := by
  rw [t_zero t]
  funext y
  refine congrArg (argX m c) ?_
  funext (b : Fin 2)
  apply Fin.ext
  refine (Rect.emb_apply ..).trans ?_
  match b with
  | 0 => show 0 * 8192 + 1 * (y 0).val = (y 0).val; omega
  | 1 => show 0 * 1024 + 1 * (y 1).val = (y 1).val; omega
/-- The step's block of the weights is all of them. -/
theorem blk2 (t : Fin cfg0.N) : (iblk m c 2 t : Vec Ideal S8x1024x5632 .fp8e4m3) = argW m c := by
  rw [t_zero t]
  funext y
  refine congrArg (argW m c) ?_
  funext (b : Fin 3)
  apply Fin.ext
  refine (Rect.emb_apply ..).trans ?_
  match b with
  | 0 => show 0 * 8 + 1 * (y 0).val = (y 0).val; omega
  | 1 => show 0 * 1024 + 1 * (y 1).val = (y 1).val; omega
  | 2 => show 0 * 5632 + 1 * (y 2).val = (y 2).val; omega
/-- The step's block of the weights' scales is all of them. -/
theorem blk3 (t : Fin cfg0.N) : (iblk m c 3 t : Vec Ideal S8x5632 .f32) = argS m c := by
  rw [t_zero t]
  funext y
  refine congrArg (argS m c) ?_
  funext (b : Fin 2)
  apply Fin.ext
  refine (Rect.emb_apply ..).trans ?_
  match b with
  | 0 => show 0 * 8 + 1 * (y 0).val = (y 0).val; omega
  | 1 => show 0 * 5632 + 1 * (y 1).val = (y 1).val; omega

/-- A place of the block is the same place of the array. -/
theorem emb4 (t : Fin cfg0.N) (y : S8192x2816.Idx) : ((cfg0.win 4).rect t).emb y = y := by
  rw [t_zero t]
  funext (b : Fin 2)
  apply Fin.ext
  refine (Rect.emb_apply ..).trans ?_
  match b with
  | 0 => show 0 * 8192 + 1 * (y 0).val = (y 0).val; omega
  | 1 => show 0 * 2816 + 1 * (y 1).val = (y 1).val; omega
/-- The step's block of the result scales is the whole array. -/
theorem emb5 (t : Fin cfg0.N) (y : S8192x1.Idx) : ((cfg0.win 5).rect t).emb y = y := by
  rw [t_zero t]
  funext (b : Fin 2)
  apply Fin.ext
  refine (Rect.emb_apply ..).trans ?_
  match b with
  | 0 => show 0 * 8192 + 1 * (y 0).val = (y 0).val; omega
  | 1 => show 0 * 1 + 1 * (y 1).val = (y 1).val; omega

/-- The block is written back, and it is the whole array. -/
theorem cover4 (i : S8192x2816.Idx) : ∃ t : Fin cfg0.N, (cfg0.win 4).flush t = true ∧ i ∈ ((cfg0.win 4).blk t).view.set := by
  refine ⟨⟨0, by decide⟩, by decide +kernel, ?_⟩
  have h0 : (i 0).val < 8192 := (i 0).isLt
  have h1 : (i 1).val < 2816 := (i 1).isLt
  refine (Pipeline.Window.emb_mem_blk_iff (cfg0.win 4) _ i).2 fun (b : Fin 2) => ?_
  match b with
  | 0 => show 0 * 8192 ≤ (i 0).val ∧ (i 0).val < 0 * 8192 + 8192; omega
  | 1 => show 0 * 2816 ≤ (i 1).val ∧ (i 1).val < 0 * 2816 + 2816; omega
/-- The step writes every result scale. -/
theorem cover5 (i : S8192x1.Idx) : ∃ t : Fin cfg0.N, (cfg0.win 5).flush t = true ∧ i ∈ ((cfg0.win 5).blk t).view.set := by
  refine ⟨⟨0, by decide⟩, by decide +kernel, ?_⟩
  have h0 : (i 0).val < 8192 := (i 0).isLt
  have h1 : (i 1).val < 1 := (i 1).isLt
  refine (Pipeline.Window.emb_mem_blk_iff (cfg0.win 5) _ i).2 fun (b : Fin 2) => ?_
  match b with
  | 0 => show 0 * 8192 ≤ (i 0).val ∧ (i 0).val < 0 * 8192 + 8192; omega
  | 1 => show 0 * 1 ≤ (i 1).val ∧ (i 1).val < 0 * 1 + 1; omega

/-- The value at a row and a column. -/
abbrev val (n : ℕ → ℕ) (r : Fin 8192) (j : Fin 2816) : EReal := row (argX m c) (argW m c) (argS m c) n r j
/-- All the codes. -/
def codes (n : ℕ → ℕ) : Vec Ideal S8192x2816 .fp8e4m3 := fun i => code (rowScale (val m c n (i 0))) (val m c n (i 0) (i 1))
/-- All the scales. -/
def scales (n : ℕ → ℕ) : Vec Ideal S8192x1 .f32 := fun i => rowScale (val m c n (i 0))

variable {n : ℕ → ℕ} (hn : ∀ e : Fin 8, (argG m c (ix1 e) : BitVec 32).toNat = n e.val) (hle : ∀ e < 8, n e ≤ 8192)
include hn hle

/-- The step leaves the codes. -/
theorem left4 (t : Fin cfg0.N) (r : Fin 8192) (j : Fin 2816) : (outsAt0 m c t).1 (ix2 r j) = codes m c n (ix2 r j) := by
  have o := out4_apply (n := n) c (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t)
    (fun e => (congrArg BitVec.toNat (congrFun (blk0 m c t) (ix1 e))).trans (hn e)) hle r j
  rw [blk1 m c t, blk2 m c t, blk3 m c t] at o
  unfold outsAt0
  dsimp only
  rw [blk1 m c t, blk2 m c t, blk3 m c t]
  exact o

/-- The step leaves the scales. -/
theorem left5 (t : Fin cfg0.N) (r : Fin 8192) : (outsAt0 m c t).2 (ix2 r 0) = scales m c n (ix2 r 0) := by
  have o := out5_apply (n := n) c (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t)
    (fun e => (congrArg BitVec.toNat (congrFun (blk0 m c t) (ix1 e))).trans (hn e)) hle r
  rw [blk1 m c t, blk2 m c t, blk3 m c t] at o
  unfold outsAt0
  dsimp only
  rw [blk1 m c t, blk2 m c t, blk3 m c t]
  exact o

/-- The first result holds the codes. -/
theorem array4 : (dats m 0 c).arrAt 4 cfg0.N = codes m c n := by
  refine Dat.arrAt_eq_of_cover (dats m 0 c) 4 (codes m c n) (fun t _ => ?_) cover4
  refine (Value.flushed4 m c t).trans ?_
  have L := left4 m c hn hle t
  generalize (outsAt0 m c t).1 = o at L ⊢
  have key : ∀ y : S8192x2816.Idx, o y = codes m c n (((cfg0.win 4).rect t).emb y) := by
    intro y
    have hy : y = ix2 (y 0) (y 1) := by
      funext (b : Fin 2)
      match b with
      | 0 => rfl
      | 1 => rfl
    exact ((congrArg o hy).trans (L (y 0) (y 1))).trans (congrArg (codes m c n) (hy.symm.trans (emb4 t y).symm))
  exact funext fun y => key y

/-- The second result holds the scales. -/
theorem array5 : (dats m 0 c).arrAt 5 cfg0.N = scales m c n := by
  refine Dat.arrAt_eq_of_cover (dats m 0 c) 5 (scales m c n) (fun t _ => ?_) cover5
  refine (Value.flushed5 m c t).trans ?_
  have L := left5 m c hn hle t
  generalize (outsAt0 m c t).2 = o at L ⊢
  have key : ∀ y : S8192x1.Idx, o y = scales m c n (((cfg0.win 5).rect t).emb y) := by
    intro y
    have hy : y = ix2 (y 0) 0 := by
      funext (b : Fin 2)
      match b with
      | 0 => rfl
      | 1 => exact Fin.ext (by have : (y 1).val < 1 := (y 1).isLt; show (y 1).val = 0; omega)
    exact ((congrArg o hy).trans (L (y 0))).trans (congrArg (scales m c n) (hy.symm.trans (emb5 t y).symm))
  exact funext fun y => key y

end Cert.ReferenceIdeal.Arrays

end
-- ==== Proof.Agree.lean ====
module

public import proofs.«01_k».proof.Defs
public import proofs.«01_k».proof.Proof.Arrays
public import proofs.«01_k».proof.Proof.RefValue

@[expose] public section

/-! The kernel and the reference leave the same arrays. -/

set_option maxRecDepth 16384

noncomputable section

namespace Cert.Agree

open Idealize.ShloMosaic Idealize.SL.Sem
open Idealize.ShloMosaic.TcCoe
open Cert.KernelIdeal.Gen Cert.KernelIdeal.Run

variable (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)

/-- The kernel's argument arrays. -/
abbrev argX : Vec Ideal Cert.KernelIdeal.S8192x1024 .bf16 := m ((c : Thread Cert.KernelIdeal.nD Cert.KernelIdeal.τ).loc Cert.KernelIdeal.main_arg0)
/-- The argument `group_sizes`. -/
abbrev argG : Vec Ideal Cert.KernelIdeal.S8 .i32 := m ((c : Thread Cert.KernelIdeal.nD Cert.KernelIdeal.τ).loc Cert.KernelIdeal.main_arg1)
/-- The argument `w13`. -/
abbrev argW : Vec Ideal Cert.KernelIdeal.S8x1024x5632 .fp8e4m3 := m ((c : Thread Cert.KernelIdeal.nD Cert.KernelIdeal.τ).loc Cert.KernelIdeal.main_arg2)
/-- The argument `w13_scale`. -/
abbrev argS : Vec Ideal Cert.KernelIdeal.S8x5632 .f32 := m ((c : Thread Cert.KernelIdeal.nD Cert.KernelIdeal.τ).loc Cert.KernelIdeal.main_arg3)

/-- The rows the kernel finds are the argument's. -/
theorem xs_eq : Cert.KernelIdeal.Found.xs (atRegion m) c = fun R k => argX m c (ix2 R k) := by
  funext R k
  exact congrFun (Cert.KernelIdeal.Adm.at_arg m c Cert.KernelIdeal.main_arg0 (by decide)) (ix2 R k)

/-- So are the weights. -/
theorem ws_eq : Cert.KernelIdeal.Found.ws (atRegion m) c = fun e k j => argW m c (ix3 e k j) := by
  funext e k j
  exact congrFun (Cert.KernelIdeal.Adm.at_arg m c Cert.KernelIdeal.main_arg2 (by decide)) (ix3 e k j)

/-- The weights' scales, reshaped for the blocks, read back. -/
theorem cast_apply (v : Vec Ideal Cert.KernelIdeal.S8x5632 .f32) (h) (e : Fin 8) (j : Fin 5632) :
    (shapeCast Cert.KernelIdeal.S8x1x5632 v h : Vec Ideal Cert.KernelIdeal.S8x1x5632 .f32) (ix3 e 0 j) = v (ix2 e j) := by
  pointwise []

/-- So are the weights' scales. -/
theorem ss_eq : Cert.KernelIdeal.Found.ss (atRegion m) c = fun e j => argS m c (ix2 e j) := by
  funext e j
  exact (congrFun (Cert.KernelIdeal.Adm.at_scales m c) (ix3 e 0 j)).trans (cast_apply _ _ e j)

/-- From the same arguments the two formulas give the same codes. -/
theorem codes_eq (n : ℕ → ℕ) (hx : Cert.ReferenceIdeal.Arrays.argX m' c = argX m c) (hw : Cert.ReferenceIdeal.Arrays.argW m' c = argW m c)
    (hs : Cert.ReferenceIdeal.Arrays.argS m' c = argS m c) :
    Cert.ReferenceIdeal.Arrays.codes m' c n = Cert.KernelIdeal.Arrays.codes (atRegion m) c n := by
  funext i
  unfold Cert.ReferenceIdeal.Arrays.codes Cert.KernelIdeal.Arrays.codes Cert.ReferenceIdeal.Arrays.val Cert.ReferenceIdeal.Body.row
  rw [xs_eq, ws_eq, ss_eq, hx, hw, hs]

/-- … and the same scales. -/
theorem scales_eq (n : ℕ → ℕ) (hx : Cert.ReferenceIdeal.Arrays.argX m' c = argX m c) (hw : Cert.ReferenceIdeal.Arrays.argW m' c = argW m c)
    (hs : Cert.ReferenceIdeal.Arrays.argS m' c = argS m c) :
    Cert.ReferenceIdeal.Arrays.scales m' c n = Cert.KernelIdeal.Arrays.scales (atRegion m) c n := by
  funext i
  unfold Cert.ReferenceIdeal.Arrays.scales Cert.KernelIdeal.Arrays.scales Cert.ReferenceIdeal.Arrays.val Cert.ReferenceIdeal.Body.row
  rw [xs_eq, ws_eq, ss_eq, hx, hw, hs]

/-- The kernel's run: the codes and the scales of the formulas, the arguments kept. -/
theorem run_kernel (g : Dev Cert.KernelIdeal.nD → PrngReg)
    (h : ∀ (c : Dev Cert.KernelIdeal.nD) (e : Fin 8), ((argG m c : IVec Cert.KernelIdeal.S8 32) (ValueIdx.ix1 e)).toNat ≤ 8192) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c : Thread Cert.KernelIdeal.nD Cert.KernelIdeal.τ).loc Cert.KernelIdeal.main_v82_0) = Cert.KernelIdeal.Arrays.codes (atRegion m) c (Cert.KernelIdeal.Adm.num (argG m c))
      ∧ r.2.mem ((c : Thread Cert.KernelIdeal.nD Cert.KernelIdeal.τ).loc Cert.KernelIdeal.main_v82_1) = Cert.KernelIdeal.Arrays.scales (atRegion m) c (Cert.KernelIdeal.Adm.num (argG m c))
      ∧ r.2.mem ((c : Thread Cert.KernelIdeal.nD Cert.KernelIdeal.τ).loc Cert.KernelIdeal.main_arg0) = m ((c : Thread Cert.KernelIdeal.nD Cert.KernelIdeal.τ).loc Cert.KernelIdeal.main_arg0)
      ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
      ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
      ∧ r.2.mem ((c : Thread Cert.KernelIdeal.nD Cert.KernelIdeal.τ).loc Cert.KernelIdeal.main_arg3) = m ((c : Thread Cert.KernelIdeal.nD Cert.KernelIdeal.τ).loc Cert.KernelIdeal.main_arg3)) := by
  refine (θ_run _ _ _).mono (fun r hr c => ?_) (Cert.KernelIdeal.Adm.runs m g h)
  obtain rfl : c = 0 := Subsingleton.elim c 0
  have hA := Cert.KernelIdeal.Arrays.results (Cert.KernelIdeal.Found.holds_adm (argG m 0) (h 0)) (atRegion m) 0 hr.1
  exact ⟨hA.1, hA.2, Cert.KernelIdeal.Adm.args_kept m _ r hr.1 0⟩

/-- The reference's run, from the same arguments: the same codes and scales. -/
theorem run_reference (g' : Dev Cert.ReferenceIdeal.nD → PrngReg)
    (h : ∀ (c : Dev Cert.KernelIdeal.nD) (e : Fin 8), ((argG m c : IVec Cert.KernelIdeal.S8 32) (ValueIdx.ix1 e)).toNat ≤ 8192)
    (hx : ∀ c, Cert.ReferenceIdeal.Arrays.argX m' c = argX m c) (hg : ∀ c, Cert.ReferenceIdeal.Arrays.argG m' c = argG m c)
    (hw : ∀ c, Cert.ReferenceIdeal.Arrays.argW m' c = argW m c) (hs : ∀ c, Cert.ReferenceIdeal.Arrays.argS m' c = argS m c) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c : Thread Cert.ReferenceIdeal.nD Cert.ReferenceIdeal.τ).loc Cert.ReferenceIdeal.main_v0_0) = Cert.KernelIdeal.Arrays.codes (atRegion m) c (Cert.KernelIdeal.Adm.num (argG m c))
      ∧ r.2.mem ((c : Thread Cert.ReferenceIdeal.nD Cert.ReferenceIdeal.τ).loc Cert.ReferenceIdeal.main_v0_1) = Cert.KernelIdeal.Arrays.scales (atRegion m) c (Cert.KernelIdeal.Adm.num (argG m c))
      ∧ r.2.mem ((c : Thread Cert.ReferenceIdeal.nD Cert.ReferenceIdeal.τ).loc Cert.ReferenceIdeal.main_arg0) = m' ((c : Thread Cert.ReferenceIdeal.nD Cert.ReferenceIdeal.τ).loc Cert.ReferenceIdeal.main_arg0)
      ∧ r.2.mem ((c : Thread Cert.ReferenceIdeal.nD Cert.ReferenceIdeal.τ).loc Cert.ReferenceIdeal.main_arg1) = m' ((c : Thread Cert.ReferenceIdeal.nD Cert.ReferenceIdeal.τ).loc Cert.ReferenceIdeal.main_arg1)
      ∧ r.2.mem ((c : Thread Cert.ReferenceIdeal.nD Cert.ReferenceIdeal.τ).loc Cert.ReferenceIdeal.main_arg2) = m' ((c : Thread Cert.ReferenceIdeal.nD Cert.ReferenceIdeal.τ).loc Cert.ReferenceIdeal.main_arg2)
      ∧ r.2.mem ((c : Thread Cert.ReferenceIdeal.nD Cert.ReferenceIdeal.τ).loc Cert.ReferenceIdeal.main_arg3) = m' ((c : Thread Cert.ReferenceIdeal.nD Cert.ReferenceIdeal.τ).loc Cert.ReferenceIdeal.main_arg3)) := by
  refine (θ_run _ _ _).mono (fun r hr c => ?_) (Cert.ReferenceIdeal.Value.run_blocks m' g')
  obtain ⟨h4, h5, hk⟩ := hr c
  have hle : ∀ e < 8, Cert.KernelIdeal.Adm.num (argG m c) e ≤ 8192 := fun e he => by
    unfold Cert.KernelIdeal.Adm.num; rw [dif_pos he]; exact h c ⟨e, he⟩
  have hn : ∀ e : Fin 8, (Cert.ReferenceIdeal.Arrays.argG m' c (ix1 e) : BitVec 32).toNat = Cert.KernelIdeal.Adm.num (argG m c) e.val := fun e => by
    rw [hg c]; unfold Cert.KernelIdeal.Adm.num; rw [dif_pos e.isLt]
    exact congrArg (fun i => BitVec.toNat (argG m c i)) (by funext a; match a with | 0 => rfl)
  exact ⟨(h4.trans (Cert.ReferenceIdeal.Arrays.array4 m' c hn hle)).trans (codes_eq m m' c _ (hx c) (hw c) (hs c)),
    (h5.trans (Cert.ReferenceIdeal.Arrays.array5 m' c hn hle)).trans (scales_eq m m' c _ (hx c) (hw c) (hs c)), hk⟩

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_sizes_in_range
public import proofs.«01_k».proof.Proof.Same
public import proofs.«01_k».proof.Proof.Adm
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The kernel's frame at machine words. -/
theorem frame_kernel : Cert.quiescent_Kernel (hKernel := Cert.Kernel.Gen.facts) (hPre_sizes_in_range := Cert.Pre_sizes_in_range.Gen.facts) := by
  intro m g hp
  rw [Cert.Same.defs_eq, show Cert.Kernel.main (F := Bits) = Cert.KernelIdeal.main from funext Cert.Same.main_eq]
  exact Cert.KernelIdeal.Adm.frame m g fun c => Cert.KernelIdeal.Adm.sizes_of_pre (hp c)

/-- The kernel's frame over the reals. -/
theorem frame_ideal : Cert.quiescent_KernelIdeal (hKernelIdeal := Cert.KernelIdeal.Gen.facts) (hPre_sizes_in_range := Cert.Pre_sizes_in_range.Gen.facts) := by
  intro m g hp
  exact Cert.KernelIdeal.Adm.frame m g fun c => Cert.KernelIdeal.Adm.sizes_of_pre (hp c)

/-- The reference's frame. -/
theorem frame_reference : Cert.quiescent_ReferenceIdeal (hReferenceIdeal := Cert.ReferenceIdeal.Gen.facts) :=
  fun m g _ => Cert.ReferenceIdeal.Gen.frame m g

/-- The reference's frame, from group sizes in range. -/
theorem frame_reference_pre : Cert.quiescent_ReferenceIdeal_pre_sizes_in_range (hReferenceIdeal := Cert.ReferenceIdeal.Gen.facts)
    (hPre_sizes_in_range := Cert.Pre_sizes_in_range.Gen.facts) :=
  fun m g _ => Cert.ReferenceIdeal.Gen.frame m g

/-- From the same arguments, with group sizes in range, kernel and reference leave the same codes and the same scales. -/
theorem algebraic : Cert.algebraic_KernelIdeal_ReferenceIdeal (hKernelIdeal := Cert.KernelIdeal.Gen.facts) (hReferenceIdeal := Cert.ReferenceIdeal.Gen.facts)
    (hPre_sizes_in_range := Cert.Pre_sizes_in_range.Gen.facts) := by
  intro m g m' g' hp ha
  have h := fun c => Cert.KernelIdeal.Adm.sizes_of_pre (hp c)
  exact ⟨_, _, Cert.Agree.run_kernel m g h,
    Cert.Agree.run_reference m m' g' h (fun c => (ha c).1) (fun c => (ha c).2.1) (fun c => (ha c).2.2.1) (fun c => (ha c).2.2.2)⟩

theorem claim : Cert.Claim := ⟨Cert.Kernel.Gen.facts, Cert.KernelIdeal.Gen.facts, Cert.ReferenceIdeal.Gen.facts, Cert.Pre_sizes_in_range.Gen.facts,
  frame_kernel, frame_ideal, frame_reference, frame_reference_pre, trivial, algebraic⟩

end Cert.Proof

end
